-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v6)) (v1 : (c : Dev Cert.ProjIdeal.nD) → Buf (Elt Ideal) ((c.tc : Thread Cert.ProjIdeal.nD Cert.ProjIdeal.τ).loc Cert.ProjIdeal.main_v7)) (v2 : (c : Dev Cert.ProjIdeal.nD) → Buf (Elt Ideal) ((c.tc : Thread Cert.ProjIdeal.nD Cert.ProjIdeal.τ).loc Cert.ProjIdeal.main_v8)) (v3 : (c : Dev Cert.ProjIdeal.nD) → Buf (Elt Ideal) ((c.tc : Thread Cert.ProjIdeal.nD Cert.ProjIdeal.τ).loc Cert.ProjIdeal.main_v9)) (v4 : (c : Dev Cert.ProjIdeal.nD) → Buf (Elt Ideal) ((c.tc : Thread Cert.ProjIdeal.nD Cert.ProjIdeal.τ).loc Cert.ProjIdeal.main_v10)) (v5 : (c : Dev Cert.ProjIdeal.nD) → Buf (Elt Ideal) ((c.tc : Thread Cert.ProjIdeal.nD Cert.ProjIdeal.τ).loc Cert.ProjIdeal.main_v11)) (v6 : (c : Dev Cert.ProjIdeal.nD) → Buf (Elt Ideal) ((c.tc : Thread Cert.ProjIdeal.nD Cert.ProjIdeal.τ).loc Cert.ProjIdeal.main_v12)) (v7 : (c : Dev Cert.ProjIdeal.nD) → Buf (Elt Ideal) ((c.tc : Thread Cert.ProjIdeal.nD Cert.ProjIdeal.τ).loc Cert.ProjIdeal.main_v5_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_v7) = v1 c
          ∧ r.2.mem ((c.tc : Thread Cert.ProjIdeal.nD Cert.ProjIdeal.τ).loc Cert.ProjIdeal.main_v8) = v2 c
          ∧ r.2.mem ((c.tc : Thread Cert.ProjIdeal.nD Cert.ProjIdeal.τ).loc Cert.ProjIdeal.main_v9) = v3 c
          ∧ r.2.mem ((c.tc : Thread Cert.ProjIdeal.nD Cert.ProjIdeal.τ).loc Cert.ProjIdeal.main_v10) = v4 c
          ∧ r.2.mem ((c.tc : Thread Cert.ProjIdeal.nD Cert.ProjIdeal.τ).loc Cert.ProjIdeal.main_v11) = v5 c
          ∧ r.2.mem ((c.tc : Thread Cert.ProjIdeal.nD Cert.ProjIdeal.τ).loc Cert.ProjIdeal.main_v12) = v6 c
          ∧ r.2.mem ((c.tc : Thread Cert.ProjIdeal.nD Cert.ProjIdeal.τ).loc Cert.ProjIdeal.main_v5_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v16) = v2 c
          ∧ r.2.mem ((c.tc : Thread Cert.ProjRefIdeal.nD Cert.ProjRefIdeal.τ).loc Cert.ProjRefIdeal.main_v17) = v3 c
          ∧ r.2.mem ((c.tc : Thread Cert.ProjRefIdeal.nD Cert.ProjRefIdeal.τ).loc Cert.ProjRefIdeal.main_v18) = v4 c
          ∧ r.2.mem ((c.tc : Thread Cert.ProjRefIdeal.nD Cert.ProjRefIdeal.τ).loc Cert.ProjRefIdeal.main_v19) = v5 c
          ∧ r.2.mem ((c.tc : Thread Cert.ProjRefIdeal.nD Cert.ProjRefIdeal.τ).loc Cert.ProjRefIdeal.main_v21) = v6 c
          ∧ r.2.mem ((c.tc : Thread Cert.ProjRefIdeal.nD Cert.ProjRefIdeal.τ).loc Cert.ProjRefIdeal.main_v31) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Gla_GlaIdeal : Prop :=
  True

def Claim : Prop :=
  ∃ (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hGla : Cert.Gla.Facts) (hGlaIdeal : Cert.GlaIdeal.Facts),
    quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Gla (hGla := hGla)
    ∧ quiescent_GlaIdeal (hGlaIdeal := hGlaIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Gla_GlaIdeal
-- ==== Merge.lean ====
abbrev S8x4096x1024 : Shape := ⟨3, ![8, 4096, 1024]⟩
abbrev S8x4096x512 : Shape := ⟨3, ![8, 4096, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x2048 : Shape := ⟨3, ![8, 4096, 2048]⟩
abbrev S1x1024 : Shape := ⟨2, ![1, 1024]⟩
abbrev S1x512x1024 : Shape := ⟨3, ![1, 512, 1024]⟩
abbrev S1x512x512 : Shape := ⟨3, ![1, 512, 512]⟩
abbrev S1x512x2048 : Shape := ⟨3, ![1, 512, 2048]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S8x4096x2048, .f32⟩
  | .hbm, ⟨13, _⟩ => ⟨S8x4096x2048, .bf16⟩
  | .hbm, ⟨14, _⟩ => ⟨S8x4096x512, .bf16⟩
  | .hbm, ⟨15, _⟩ => ⟨S8x4096x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S8x4096x1024 : Shape := ⟨3, ![8, 4096, 1024]⟩
abbrev S8x4096x512 : Shape := ⟨3, ![8, 4096, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Proj.lean ====
abbrev S8x4096x1024 : Shape := ⟨3, ![8, 4096, 1024]⟩
abbrev S1024 : Shape := ⟨1, ![1024]⟩
abbrev S1024x6672 : Shape := ⟨2, ![1024, 6672]⟩
abbrev S16x512 : Shape := ⟨2, ![16, 512]⟩
abbrev S512 : Shape := ⟨1, ![512]⟩
abbrev S_ : Shape := ⟨0, ![]⟩
abbrev S112x512 : Shape := ⟨2, ![112, 512]⟩
abbrev S128x512 : Shape := ⟨2, ![128, 512]⟩
abbrev S1x1024 : Shape := ⟨2, ![1, 1024]⟩
abbrev S1x512 : Shape := ⟨2, ![1, 512]⟩
abbrev S8x4096x512 : Shape := ⟨3, ![8, 4096, 512]⟩
abbrev S8x4096x2048 : Shape := ⟨3, ![8, 4096, 2048]⟩
abbrev S1x512x1024 : Shape := ⟨3, ![1, 512, 1024]⟩
abbrev S1024x4608 : Shape := ⟨2, ![1024, 4608]⟩
abbrev S1024x2304 : Shape := ⟨2, ![1024, 2304]⟩
abbrev S1x512x512 : Shape := ⟨3, ![1, 512, 512]⟩
abbrev S1x512x2048 : Shape := ⟨3, ![1, 512, 2048]⟩
abbrev S1024x2048 : Shape := ⟨2, ![1024, 2048]⟩
abbrev S512x1024 : Shape := ⟨2, ![512, 1024]⟩
abbrev S512x1 : Shape := ⟨2, ![512, 1]⟩
abbrev S1024x128 : Shape := ⟨2, ![1024, 128]⟩
abbrev S512x128 : Shape := ⟨2, ![512, 128]⟩
abbrev S1024x512 : Shape := ⟨2, ![1024, 512]⟩
abbrev S512x512 : Shape := ⟨2, ![512, 512]⟩
abbrev S1024x1024 : Shape := ⟨2, ![1024, 1024]⟩
abbrev S128x384 : Shape := ⟨2, ![128, 384]⟩
abbrev S384x512 : Shape := ⟨2, ![384, 512]⟩
abbrev S1x128x512 : Shape := ⟨3, ![1, 128, 512]⟩

abbrev nBuf : Space → Nat
  | .hbm => 26
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6672, .f32⟩
  | .hbm, ⟨3, _⟩ => ⟨S16x512, .f32⟩
  | .hbm, ⟨4, _⟩ => ⟨S512, .f32⟩
  | .hbm, ⟨5, _⟩ => ⟨S_, .f32⟩
  | .hbm, ⟨6, _⟩ => ⟨S112x512, .f32⟩
  | .hbm, ⟨7, _⟩ => ⟨S128x512, .f32⟩
  | .hbm, ⟨8, _⟩ => ⟨S128x512, .bf16⟩
  | .hbm, ⟨9, _⟩ => ⟨S1x1024, .f32⟩
  | .hbm, ⟨10, _⟩ => ⟨S1x512, .f32⟩
  | .hbm, ⟨11, _⟩ => ⟨S8x4096x512, .bf16⟩
  | .hbm, ⟨12, _⟩ => ⟨S8x4096x512, .bf16⟩
  | .hbm, ⟨13, _⟩ => ⟨S8x4096x512, .bf16⟩
  | .hbm, ⟨14, _⟩ => ⟨S8x4096x1024, .bf16⟩
  | .hbm, ⟨15, _⟩ => ⟨S8x4096x1024, .bf16⟩
  | .hbm, ⟨16, _⟩ => ⟨S8x4096x1024, .bf16⟩
  | .hbm, ⟨17, _⟩ => ⟨S8x4096x2048, .bf16⟩
  | .hbm, ⟨18, _⟩ => ⟨S8x4096x512, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4608, .f32⟩
  | .local _ .vmem, ⟨4, _⟩ => ⟨S1024x2304, .f32⟩
  | .local _ .vmem, ⟨5, _⟩ => ⟨S128x512, .bf16⟩
  | .local _ .vmem, ⟨6, _⟩ => ⟨S1x512, .f32⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x2048, .bf16⟩
  | .local _ .vmem, ⟨20, _⟩ => ⟨S1x512x2048, .bf16⟩
  | .local _ .vmem, ⟨21, _⟩ => ⟨S1x512x512, .f32⟩
  | .local _ .vmem, ⟨22, _⟩ => ⟨S1x512x512, .f32⟩
  | .local _ .vmem, ⟨23, _⟩ => ⟨S1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S8x4096x1024 : Shape := ⟨3, ![8, 4096, 1024]⟩
abbrev S1024 : Shape := ⟨1, ![1024]⟩
abbrev S1024x6672 : Shape := ⟨2, ![1024, 6672]⟩
abbrev S16x512 : Shape := ⟨2, ![16, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6672 : Shape := ⟨3, ![8, 4096, 6672]⟩
abbrev S8x4096x512 : Shape := ⟨3, ![8, 4096, 512]⟩
abbrev S8x4096x16 : Shape := ⟨3, ![8, 4096, 16]⟩
abbrev S8x4096x2048 : Shape := ⟨3, ![8, 4096, 2048]⟩
abbrev S1x1x512 : Shape := ⟨3, ![1, 1, 512]⟩
abbrev S8x32x128x512 : Shape := ⟨4, ![8, 32, 128, 512]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6672, .f32⟩
  | .hbm, ⟨3, _⟩ => ⟨S16x512, .f32⟩
  | .hbm, ⟨4, _⟩ => ⟨S512, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x6672, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x16, .f32⟩
  | .hbm, ⟨29, _⟩ => ⟨S8x4096x2048, .f32⟩
  | .hbm, ⟨30, _⟩ => ⟨S8x4096x512, .f32⟩
  | .hbm, ⟨31, _⟩ => ⟨S1x1x512, .f32⟩
  | .hbm, ⟨32, _⟩ => ⟨S8x4096x512, .f32⟩
  | .hbm, ⟨33, _⟩ => ⟨S8x4096x512, .f32⟩
  | .hbm, ⟨34, _⟩ => ⟨S8x4096x512, .f32⟩
  | .hbm, ⟨35, _⟩ => ⟨S_, .f32⟩
  | .hbm, ⟨36, _⟩ => ⟨S8x4096x512, .f32⟩
  | .hbm, ⟨37, _⟩ => ⟨S8x4096x512, .f32⟩
  | .hbm, ⟨38, _⟩ => ⟨S8x4096x512, .f32⟩
  | .hbm, ⟨39, _⟩ => ⟨S8x4096x512, .f32⟩
  | .hbm, ⟨40, _⟩ => ⟨S8x4096x512, .i1⟩
  | .hbm, ⟨41, _⟩ => ⟨S8x4096x512, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | .hbm, ⟨46, _⟩ => ⟨S8x4096x512, .f32⟩
  | .hbm, ⟨47, _⟩ => ⟨S8x4096x512, .f32⟩
  | .hbm, ⟨48, _⟩ => ⟨S8x4096x512, .f32⟩
  | .hbm, ⟨49, _⟩ => ⟨S8x4096x512, .f32⟩
  | .hbm, ⟨50, _⟩ => ⟨S_, .f32⟩
  | .hbm, ⟨51, _⟩ => ⟨S8x4096x512, .f32⟩
  | .hbm, ⟨52, _⟩ => ⟨S8x4096x512, .f32⟩
  | .hbm, ⟨53, _⟩ => ⟨S8x32x128x512, .f32⟩
  | .hbm, ⟨54, _⟩ => ⟨S_, .f32⟩
  | .hbm, ⟨55, _⟩ => ⟨S_, .f32⟩
  | .hbm, ⟨56, _⟩ => ⟨S8x32x128x512, .f32⟩
  | .hbm, ⟨57, _⟩ => ⟨S8x4096x512, .f32⟩
  | .hbm, ⟨58, _⟩ => ⟨S_, .f32⟩
  | .hbm, ⟨59, _⟩ => ⟨S8x4096x512, .f32⟩
  | .hbm, ⟨60, _⟩ => ⟨S8x4096x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_call0_cst : Ref sig .tc := ⟨.hbm, 54, rfl⟩
abbrev main_call1_call0_v0 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== Gla.lean ====
abbrev S8x4096x1024 : Shape := ⟨3, ![8, 4096, 1024]⟩
abbrev S8x4096x512 : Shape := ⟨3, ![8, 4096, 512]⟩
abbrev S256 : Shape := ⟨1, ![256]⟩
abbrev S1x256 : Shape := ⟨2, ![1, 256]⟩
abbrev S1x4096x128 : Shape := ⟨3, ![1, 4096, 128]⟩
abbrev S1x4096x256 : Shape := ⟨3, ![1, 4096, 256]⟩
abbrev S256x128 : Shape := ⟨2, ![256, 128]⟩
abbrev S2x512x256 : Shape := ⟨3, ![2, 512, 256]⟩
abbrev S8 : Shape := ⟨1, ![8]⟩
abbrev S128x128 : Shape := ⟨2, ![128, 128]⟩
abbrev S1x32x128 : Shape := ⟨3, ![1, 32, 128]⟩
abbrev S32x128 : Shape := ⟨2, ![32, 128]⟩
abbrev S4x128 : Shape := ⟨2, ![4, 128]⟩
abbrev S1x4x128 : Shape := ⟨3, ![1, 4, 128]⟩
abbrev S1 : Shape := ⟨1, ![1]⟩
abbrev S1x1x1 : Shape := ⟨3, ![1, 1, 1]⟩
abbrev S1x128x128 : Shape := ⟨3, ![1, 128, 128]⟩
abbrev S1x128x256 : Shape := ⟨3, ![1, 128, 256]⟩
abbrev S128x256 : Shape := ⟨2, ![128, 256]⟩
abbrev S1x128 : Shape := ⟨2, ![1, 128]⟩
abbrev S16x128 : Shape := ⟨2, ![16, 128]⟩
abbrev S112x128 : Shape := ⟨2, ![112, 128]⟩
abbrev S96x128 : Shape := ⟨2, ![96, 128]⟩
abbrev S48x128 : Shape := ⟨2, ![48, 128]⟩
abbrev S80x128 : Shape := ⟨2, ![80, 128]⟩
abbrev S64x128 : Shape := ⟨2, ![64, 128]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 15
  | .smem => 1
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S8x4096x512, .f32⟩
  | .hbm, ⟨4, _⟩ => ⟨S256, .f32⟩
  | .hbm, ⟨5, _⟩ => ⟨S1x256, .f32⟩
  | .hbm, ⟨6, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x128, .f32⟩
  | .local _ .vmem, ⟨9, _⟩ => ⟨S1x4096x128, .f32⟩
  | .local _ .vmem, ⟨10, _⟩ => ⟨S1x256, .f32⟩
  | .local _ .vmem, ⟨11, _⟩ => ⟨S1x4096x256, .bf16⟩
  | .local _ .vmem, ⟨12, _⟩ => ⟨S1x4096x256, .bf16⟩
  | .local _ .vmem, ⟨13, _⟩ => ⟨S256x128, .f32⟩
  | .local _ .vmem, ⟨14, _⟩ => ⟨S2x512x256, .f32⟩
  | .local _ .smem, ⟨0, _⟩ => ⟨S8, .i32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_mult1 : BitVec 32 :=
  let c0_i32_94 : BitVec 32 := 0#32
  c0_i32_94
def k0_mult2 : BitVec 32 :=
  let c128_i32 : BitVec 32 := 128#32
  c128_i32
def k0_mult3 : BitVec 32 :=
  let c256_i32 : BitVec 32 := 256#32
  c256_i32
def k0_mult4 : BitVec 32 :=
  let c384_i32 : BitVec 32 := 384#32
  c384_i32
def k0_mult5 : BitVec 32 :=
  let c0_i32_94 : BitVec 32 := 0#32
  c0_i32_94
def k0_mult6 : BitVec 32 :=
  let c128_i32 : BitVec 32 := 128#32
  c128_i32
def k0_mult7 : BitVec 32 :=
  let c256_i32 : BitVec 32 := 256#32
  c256_i32
def k0_mult8 : BitVec 32 :=
  let c384_i32 : BitVec 32 := 384#32
  c384_i32
@[reducible] def k0_t1_loop : Scf.Loop 32 :=
  let c1_i32_45 : BitVec 32 := 1#32
  let c7_i32_46 : BitVec 32 := 7#32
  let v227 : BitVec 32 := Scalar.addi c1_i32_45 c7_i32_46
  let c1_i32_47 : BitVec 32 := 1#32
  ⟨c1_i32_45, v227, c1_i32_47⟩
def k0_off1 (k0_t1 : Fin k0_t1_loop.trips) : Fin 1 → Nat :=
  let c1_i32_45 : BitVec 32 := 1#32
  let c1_i32_47 : BitVec 32 := 1#32
  let arg12 : BitVec 32 := Scf.iv c1_i32_45 c1_i32_47 k0_t1
  let v344 : Index := Scalar.indexCast arg12
  ![v344.toNat]
def k0_mult9 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_103 : BitVec 32 := 4#32
  let v360 : BitVec 32 := Scalar.muli v349 c4_i32_103
  let c0_i32_104 : BitVec 32 := 0#32
  let v361 : BitVec 32 := Scalar.addi v360 c0_i32_104
  let c128_i32 : BitVec 32 := 128#32
  let v362 : BitVec 32 := Scalar.muli v361 c128_i32
  v362
def k0_off2 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c2_i32_97 : BitVec 32 := 2#32
  let c0_i32_98 : BitVec 32 := 0#32
  let v350 : BitVec 1 := Scalar.cmpi .eq c2_i32_97 c0_i32_98
  let c1_i32_99 : BitVec 32 := 1#32
  let v351 : BitVec 32 := Scalar.select v350 c1_i32_99 c2_i32_97
  let v352 : BitVec 32 := Scalar.remsi v349 v351
  let c0_i32_101 : BitVec 32 := 0#32
  let v354 : BitVec 1 := Scalar.cmpi .slt v352 c0_i32_101
  let c0_i32_102 : BitVec 32 := 0#32
  let v355 : BitVec 1 := Scalar.cmpi .slt v351 c0_i32_102
  let v356 : BitVec 1 := Scalar.xori v354 v355
  let c0_i32_100 : BitVec 32 := 0#32
  let v353 : BitVec 1 := Scalar.cmpi .ne v352 c0_i32_100
  let v357 : BitVec 1 := Scalar.andi v356 v353
  let v358 : BitVec 32 := Scalar.addi v352 v351
  let v359 : BitVec 32 := Scalar.select v357 v358 v352
  let v364 : Index := Scalar.indexCast v359
  let c0_105 : Index := 0#32
  let c0_106 : Index := 0#32
  ![v364.toNat, 0, 0]
def k0_off3 (k0_t1 : Fin k0_t1_loop.trips) (c0_i32_104 : BitVec 32) : Fin 3 → Nat :=
  let c0_112 : Index := 0#32
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_103 : BitVec 32 := 4#32
  let v360 : BitVec 32 := Scalar.muli v349 c4_i32_103
  let v361 : BitVec 32 := Scalar.addi v360 c0_i32_104
  let c128_i32 : BitVec 32 := 128#32
  let v362 : BitVec 32 := Scalar.muli v361 c128_i32
  let v363 : BitVec 32 := v362
  let v381 : Index := Scalar.indexCast v363
  let c0_113 : Index := 0#32
  ![0, v381.toNat, 0]
def k0_mult10 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_116 : BitVec 32 := 4#32
  let v393 : BitVec 32 := Scalar.muli v349 c4_i32_116
  let c1_i32_117 : BitVec 32 := 1#32
  let v394 : BitVec 32 := Scalar.addi v393 c1_i32_117
  let c128_i32_118 : BitVec 32 := 128#32
  let v395 : BitVec 32 := Scalar.muli v394 c128_i32_118
  v395
def k0_off4 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c2_i32_97 : BitVec 32 := 2#32
  let c0_i32_98 : BitVec 32 := 0#32
  let v350 : BitVec 1 := Scalar.cmpi .eq c2_i32_97 c0_i32_98
  let c1_i32_99 : BitVec 32 := 1#32
  let v351 : BitVec 32 := Scalar.select v350 c1_i32_99 c2_i32_97
  let v352 : BitVec 32 := Scalar.remsi v349 v351
  let c0_i32_101 : BitVec 32 := 0#32
  let v354 : BitVec 1 := Scalar.cmpi .slt v352 c0_i32_101
  let c0_i32_102 : BitVec 32 := 0#32
  let v355 : BitVec 1 := Scalar.cmpi .slt v351 c0_i32_102
  let v356 : BitVec 1 := Scalar.xori v354 v355
  let c0_i32_100 : BitVec 32 := 0#32
  let v353 : BitVec 1 := Scalar.cmpi .ne v352 c0_i32_100
  let v357 : BitVec 1 := Scalar.andi v356 v353
  let v358 : BitVec 32 := Scalar.addi v352 v351
  let v359 : BitVec 32 := Scalar.select v357 v358 v352
  let v397 : Index := Scalar.indexCast v359
  let c128_119 : Index := 128#32
  let c0_120 : Index := 0#32
  ![v397.toNat, 128, 0]
def k0_mult11 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_130 : BitVec 32 := 4#32
  let v426 : BitVec 32 := Scalar.muli v349 c4_i32_130
  let c2_i32_131 : BitVec 32 := 2#32
  let v427 : BitVec 32 := Scalar.addi v426 c2_i32_131
  let c128_i32_132 : BitVec 32 := 128#32
  let v428 : BitVec 32 := Scalar.muli v427 c128_i32_132
  v428
def k0_off5 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c2_i32_97 : BitVec 32 := 2#32
  let c0_i32_98 : BitVec 32 := 0#32
  let v350 : BitVec 1 := Scalar.cmpi .eq c2_i32_97 c0_i32_98
  let c1_i32_99 : BitVec 32 := 1#32
  let v351 : BitVec 32 := Scalar.select v350 c1_i32_99 c2_i32_97
  let v352 : BitVec 32 := Scalar.remsi v349 v351
  let c0_i32_101 : BitVec 32 := 0#32
  let v354 : BitVec 1 := Scalar.cmpi .slt v352 c0_i32_101
  let c0_i32_102 : BitVec 32 := 0#32
  let v355 : BitVec 1 := Scalar.cmpi .slt v351 c0_i32_102
  let v356 : BitVec 1 := Scalar.xori v354 v355
  let c0_i32_100 : BitVec 32 := 0#32
  let v353 : BitVec 1 := Scalar.cmpi .ne v352 c0_i32_100
  let v357 : BitVec 1 := Scalar.andi v356 v353
  let v358 : BitVec 32 := Scalar.addi v352 v351
  let v359 : BitVec 32 := Scalar.select v357 v358 v352
  let v430 : Index := Scalar.indexCast v359
  let c256_133 : Index := 256#32
  let c0_134 : Index := 0#32
  ![v430.toNat, 256, 0]
def k0_mult12 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_144 : BitVec 32 := 4#32
  let v459 : BitVec 32 := Scalar.muli v349 c4_i32_144
  let c3_i32_145 : BitVec 32 := 3#32
  let v460 : BitVec 32 := Scalar.addi v459 c3_i32_145
  let c128_i32_146 : BitVec 32 := 128#32
  let v461 : BitVec 32 := Scalar.muli v460 c128_i32_146
  v461
def k0_off6 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c2_i32_97 : BitVec 32 := 2#32
  let c0_i32_98 : BitVec 32 := 0#32
  let v350 : BitVec 1 := Scalar.cmpi .eq c2_i32_97 c0_i32_98
  let c1_i32_99 : BitVec 32 := 1#32
  let v351 : BitVec 32 := Scalar.select v350 c1_i32_99 c2_i32_97
  let v352 : BitVec 32 := Scalar.remsi v349 v351
  let c0_i32_101 : BitVec 32 := 0#32
  let v354 : BitVec 1 := Scalar.cmpi .slt v352 c0_i32_101
  let c0_i32_102 : BitVec 32 := 0#32
  let v355 : BitVec 1 := Scalar.cmpi .slt v351 c0_i32_102
  let v356 : BitVec 1 := Scalar.xori v354 v355
  let c0_i32_100 : BitVec 32 := 0#32
  let v353 : BitVec 1 := Scalar.cmpi .ne v352 c0_i32_100
  let v357 : BitVec 1 := Scalar.andi v356 v353
  let v358 : BitVec 32 := Scalar.addi v352 v351
  let v359 : BitVec 32 := Scalar.select v357 v358 v352
  let v463 : Index := Scalar.indexCast v359
  let c384_147 : Index := 384#32
  let c0_148 : Index := 0#32
  ![v463.toNat, 384, 0]
def k0_mult13 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c4_i32_158 : BitVec 32 := 4#32
  let v492 : BitVec 32 := Scalar.muli arg12 c4_i32_158
  let c0_i32_159 : BitVec 32 := 0#32
  let v493 : BitVec 32 := Scalar.addi v492 c0_i32_159
  let c128_i32_160 : BitVec 32 := 128#32
  let v494 : BitVec 32 := Scalar.muli v493 c128_i32_160
  v494
def k0_mult14 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c4_i32_161 : BitVec 32 := 4#32
  let v496 : BitVec 32 := Scalar.muli arg12 c4_i32_161
  let c1_i32_162 : BitVec 32 := 1#32
  let v497 : BitVec 32 := Scalar.addi v496 c1_i32_162
  let c128_i32_163 : BitVec 32 := 128#32
  let v498 : BitVec 32 := Scalar.muli v497 c128_i32_163
  v498
def k0_mult15 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c4_i32_164 : BitVec 32 := 4#32
  let v500 : BitVec 32 := Scalar.muli arg12 c4_i32_164
  let c2_i32_165 : BitVec 32 := 2#32
  let v501 : BitVec 32 := Scalar.addi v500 c2_i32_165
  let c128_i32_166 : BitVec 32 := 128#32
  let v502 : BitVec 32 := Scalar.muli v501 c128_i32_166
  v502
def k0_mult16 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c4_i32_167 : BitVec 32 := 4#32
  let v504 : BitVec 32 := Scalar.muli arg12 c4_i32_167
  let c3_i32_168 : BitVec 32 := 3#32
  let v505 : BitVec 32 := Scalar.addi v504 c3_i32_168
  let c128_i32_169 : BitVec 32 := 128#32
  let v506 : BitVec 32 := Scalar.muli v505 c128_i32_169
  v506
def k0_off7 (k0_t1 : Fin k0_t1_loop.trips) (c0_i32_159 : BitVec 32) : Fin 3 → Nat :=
  let c0_170 : Index := 0#32
  let c1_i32_45 : BitVec 32 := 1#32
  let c1_i32_47 : BitVec 32 := 1#32
  let arg12 : BitVec 32 := Scf.iv c1_i32_45 c1_i32_47 k0_t1
  let c4_i32_158 : BitVec 32 := 4#32
  let v492 : BitVec 32 := Scalar.muli arg12 c4_i32_158
  let v493 : BitVec 32 := Scalar.addi v492 c0_i32_159
  let c128_i32_160 : BitVec 32 := 128#32
  let v494 : BitVec 32 := Scalar.muli v493 c128_i32_160
  let v495 : BitVec 32 := v494
  let v508 : Index := Scalar.indexCast v495
  let c0_171 : Index := 0#32
  ![0, v508.toNat, 0]
def k0_off8 (k0_t1 : Fin k0_t1_loop.trips) (c0_i32_159 : BitVec 32) : Fin 3 → Nat :=
  let c0_190 : Index := 0#32
  let c1_i32_45 : BitVec 32 := 1#32
  let c1_i32_47 : BitVec 32 := 1#32
  let arg12 : BitVec 32 := Scf.iv c1_i32_45 c1_i32_47 k0_t1
  let c4_i32_158 : BitVec 32 := 4#32
  let v492 : BitVec 32 := Scalar.muli arg12 c4_i32_158
  let v493 : BitVec 32 := Scalar.addi v492 c0_i32_159
  let c128_i32_160 : BitVec 32 := 128#32
  let v494 : BitVec 32 := Scalar.muli v493 c128_i32_160
  let v495 : BitVec 32 := v494
  let v548 : Index := Scalar.indexCast v495
  let c0_191 : Index := 0#32
  ![0, v548.toNat, 0]
def k0_off9 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c2_i32_226 : BitVec 32 := 2#32
  let c0_i32_227 : BitVec 32 := 0#32
  let v700 : BitVec 1 := Scalar.cmpi .eq c2_i32_226 c0_i32_227
  let c1_i32_228 : BitVec 32 := 1#32
  let v701 : BitVec 32 := Scalar.select v700 c1_i32_228 c2_i32_226
  let v702 : BitVec 32 := Scalar.remsi arg12 v701
  let c0_i32_230 : BitVec 32 := 0#32
  let v704 : BitVec 1 := Scalar.cmpi .slt v702 c0_i32_230
  let c0_i32_231 : BitVec 32 := 0#32
  let v705 : BitVec 1 := Scalar.cmpi .slt v701 c0_i32_231
  let v706 : BitVec 1 := Scalar.xori v704 v705
  let c0_i32_229 : BitVec 32 := 0#32
  let v703 : BitVec 1 := Scalar.cmpi .ne v702 c0_i32_229
  let v707 : BitVec 1 := Scalar.andi v706 v703
  let v708 : BitVec 32 := Scalar.addi v702 v701
  let v709 : BitVec 32 := Scalar.select v707 v708 v702
  let v712 : Index := Scalar.indexCast v709
  let c0_233 : Index := 0#32
  let c0_234 : Index := 0#32
  ![v712.toNat, 0, 0]
def k0_off10 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c2_i32_226 : BitVec 32 := 2#32
  let c0_i32_227 : BitVec 32 := 0#32
  let v700 : BitVec 1 := Scalar.cmpi .eq c2_i32_226 c0_i32_227
  let c1_i32_228 : BitVec 32 := 1#32
  let v701 : BitVec 32 := Scalar.select v700 c1_i32_228 c2_i32_226
  let v702 : BitVec 32 := Scalar.remsi arg12 v701
  let c0_i32_230 : BitVec 32 := 0#32
  let v704 : BitVec 1 := Scalar.cmpi .slt v702 c0_i32_230
  let c0_i32_231 : BitVec 32 := 0#32
  let v705 : BitVec 1 := Scalar.cmpi .slt v701 c0_i32_231
  let v706 : BitVec 1 := Scalar.xori v704 v705
  let c0_i32_229 : BitVec 32 := 0#32
  let v703 : BitVec 1 := Scalar.cmpi .ne v702 c0_i32_229
  let v707 : BitVec 1 := Scalar.andi v706 v703
  let v708 : BitVec 32 := Scalar.addi v702 v701
  let v709 : BitVec 32 := Scalar.select v707 v708 v702
  let v718 : Index := Scalar.indexCast v709
  let c128_236 : Index := 128#32
  let c0_237 : Index := 0#32
  ![v718.toNat, 128, 0]
def k0_off11 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c2_i32_226 : BitVec 32 := 2#32
  let c0_i32_227 : BitVec 32 := 0#32
  let v700 : BitVec 1 := Scalar.cmpi .eq c2_i32_226 c0_i32_227
  let c1_i32_228 : BitVec 32 := 1#32
  let v701 : BitVec 32 := Scalar.select v700 c1_i32_228 c2_i32_226
  let v702 : BitVec 32 := Scalar.remsi arg12 v701
  let c0_i32_230 : BitVec 32 := 0#32
  let v704 : BitVec 1 := Scalar.cmpi .slt v702 c0_i32_230
  let c0_i32_231 : BitVec 32 := 0#32
  let v705 : BitVec 1 := Scalar.cmpi .slt v701 c0_i32_231
  let v706 : BitVec 1 := Scalar.xori v704 v705
  let c0_i32_229 : BitVec 32 := 0#32
  let v703 : BitVec 1 := Scalar.cmpi .ne v702 c0_i32_229
  let v707 : BitVec 1 := Scalar.andi v706 v703
  let v708 : BitVec 32 := Scalar.addi v702 v701
  let v709 : BitVec 32 := Scalar.select v707 v708 v702
  let v724 : Index := Scalar.indexCast v709
  let c256_239 : Index := 256#32
  let c0_240 : Index := 0#32
  ![v724.toNat, 256, 0]
def k0_off12 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c2_i32_226 : BitVec 32 := 2#32
  let c0_i32_227 : BitVec 32 := 0#32
  let v700 : BitVec 1 := Scalar.cmpi .eq c2_i32_226 c0_i32_227
  let c1_i32_228 : BitVec 32 := 1#32
  let v701 : BitVec 32 := Scalar.select v700 c1_i32_228 c2_i32_226
  let v702 : BitVec 32 := Scalar.remsi arg12 v701
  let c0_i32_230 : BitVec 32 := 0#32
  let v704 : BitVec 1 := Scalar.cmpi .slt v702 c0_i32_230
  let c0_i32_231 : BitVec 32 := 0#32
  let v705 : BitVec 1 := Scalar.cmpi .slt v701 c0_i32_231
  let v706 : BitVec 1 := Scalar.xori v704 v705
  let c0_i32_229 : BitVec 32 := 0#32
  let v703 : BitVec 1 := Scalar.cmpi .ne v702 c0_i32_229
  let v707 : BitVec 1 := Scalar.andi v706 v703
  let v708 : BitVec 32 := Scalar.addi v702 v701
  let v709 : BitVec 32 := Scalar.select v707 v708 v702
  let v730 : Index := Scalar.indexCast v709
  let c384_242 : Index := 384#32
  let c0_243 : Index := 0#32
  ![v730.toNat, 384, 0]
def k0_mult17 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_103 : BitVec 32 := 4#32
  let v360 : BitVec 32 := Scalar.muli v349 c4_i32_103
  let c0_i32_104 : BitVec 32 := 0#32
  let v361 : BitVec 32 := Scalar.addi v360 c0_i32_104
  let c128_i32 : BitVec 32 := 128#32
  let v362 : BitVec 32 := Scalar.muli v361 c128_i32
  v362
def k0_off13 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c2_i32_97 : BitVec 32 := 2#32
  let c0_i32_98 : BitVec 32 := 0#32
  let v350 : BitVec 1 := Scalar.cmpi .eq c2_i32_97 c0_i32_98
  let c1_i32_99 : BitVec 32 := 1#32
  let v351 : BitVec 32 := Scalar.select v350 c1_i32_99 c2_i32_97
  let v352 : BitVec 32 := Scalar.remsi v349 v351
  let c0_i32_101 : BitVec 32 := 0#32
  let v354 : BitVec 1 := Scalar.cmpi .slt v352 c0_i32_101
  let c0_i32_102 : BitVec 32 := 0#32
  let v355 : BitVec 1 := Scalar.cmpi .slt v351 c0_i32_102
  let v356 : BitVec 1 := Scalar.xori v354 v355
  let c0_i32_100 : BitVec 32 := 0#32
  let v353 : BitVec 1 := Scalar.cmpi .ne v352 c0_i32_100
  let v357 : BitVec 1 := Scalar.andi v356 v353
  let v358 : BitVec 32 := Scalar.addi v352 v351
  let v359 : BitVec 32 := Scalar.select v357 v358 v352
  let v364 : Index := Scalar.indexCast v359
  let c0_105 : Index := 0#32
  let c0_106 : Index := 0#32
  ![v364.toNat, 0, 0]
def k0_off14 (k0_t1 : Fin k0_t1_loop.trips) (c0_i32_104 : BitVec 32) : Fin 3 → Nat :=
  let c0_112 : Index := 0#32
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_103 : BitVec 32 := 4#32
  let v360 : BitVec 32 := Scalar.muli v349 c4_i32_103
  let v361 : BitVec 32 := Scalar.addi v360 c0_i32_104
  let c128_i32 : BitVec 32 := 128#32
  let v362 : BitVec 32 := Scalar.muli v361 c128_i32
  let v363 : BitVec 32 := v362
  let v381 : Index := Scalar.indexCast v363
  let c0_113 : Index := 0#32
  ![0, v381.toNat, 0]
def k0_mult18 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_116 : BitVec 32 := 4#32
  let v393 : BitVec 32 := Scalar.muli v349 c4_i32_116
  let c1_i32_117 : BitVec 32 := 1#32
  let v394 : BitVec 32 := Scalar.addi v393 c1_i32_117
  let c128_i32_118 : BitVec 32 := 128#32
  let v395 : BitVec 32 := Scalar.muli v394 c128_i32_118
  v395
def k0_off15 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c2_i32_97 : BitVec 32 := 2#32
  let c0_i32_98 : BitVec 32 := 0#32
  let v350 : BitVec 1 := Scalar.cmpi .eq c2_i32_97 c0_i32_98
  let c1_i32_99 : BitVec 32 := 1#32
  let v351 : BitVec 32 := Scalar.select v350 c1_i32_99 c2_i32_97
  let v352 : BitVec 32 := Scalar.remsi v349 v351
  let c0_i32_101 : BitVec 32 := 0#32
  let v354 : BitVec 1 := Scalar.cmpi .slt v352 c0_i32_101
  let c0_i32_102 : BitVec 32 := 0#32
  let v355 : BitVec 1 := Scalar.cmpi .slt v351 c0_i32_102
  let v356 : BitVec 1 := Scalar.xori v354 v355
  let c0_i32_100 : BitVec 32 := 0#32
  let v353 : BitVec 1 := Scalar.cmpi .ne v352 c0_i32_100
  let v357 : BitVec 1 := Scalar.andi v356 v353
  let v358 : BitVec 32 := Scalar.addi v352 v351
  let v359 : BitVec 32 := Scalar.select v357 v358 v352
  let v397 : Index := Scalar.indexCast v359
  let c128_119 : Index := 128#32
  let c0_120 : Index := 0#32
  ![v397.toNat, 128, 0]
def k0_mult19 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_130 : BitVec 32 := 4#32
  let v426 : BitVec 32 := Scalar.muli v349 c4_i32_130
  let c2_i32_131 : BitVec 32 := 2#32
  let v427 : BitVec 32 := Scalar.addi v426 c2_i32_131
  let c128_i32_132 : BitVec 32 := 128#32
  let v428 : BitVec 32 := Scalar.muli v427 c128_i32_132
  v428
def k0_off16 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c2_i32_97 : BitVec 32 := 2#32
  let c0_i32_98 : BitVec 32 := 0#32
  let v350 : BitVec 1 := Scalar.cmpi .eq c2_i32_97 c0_i32_98
  let c1_i32_99 : BitVec 32 := 1#32
  let v351 : BitVec 32 := Scalar.select v350 c1_i32_99 c2_i32_97
  let v352 : BitVec 32 := Scalar.remsi v349 v351
  let c0_i32_101 : BitVec 32 := 0#32
  let v354 : BitVec 1 := Scalar.cmpi .slt v352 c0_i32_101
  let c0_i32_102 : BitVec 32 := 0#32
  let v355 : BitVec 1 := Scalar.cmpi .slt v351 c0_i32_102
  let v356 : BitVec 1 := Scalar.xori v354 v355
  let c0_i32_100 : BitVec 32 := 0#32
  let v353 : BitVec 1 := Scalar.cmpi .ne v352 c0_i32_100
  let v357 : BitVec 1 := Scalar.andi v356 v353
  let v358 : BitVec 32 := Scalar.addi v352 v351
  let v359 : BitVec 32 := Scalar.select v357 v358 v352
  let v430 : Index := Scalar.indexCast v359
  let c256_133 : Index := 256#32
  let c0_134 : Index := 0#32
  ![v430.toNat, 256, 0]
def k0_mult20 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c4_i32_144 : BitVec 32 := 4#32
  let v459 : BitVec 32 := Scalar.muli v349 c4_i32_144
  let c3_i32_145 : BitVec 32 := 3#32
  let v460 : BitVec 32 := Scalar.addi v459 c3_i32_145
  let c128_i32_146 : BitVec 32 := 128#32
  let v461 : BitVec 32 := Scalar.muli v460 c128_i32_146
  v461
def k0_off17 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c1_i32_96 : BitVec 32 := 1#32
  let v349 : BitVec 32 := Scalar.subi arg12 c1_i32_96
  let c2_i32_97 : BitVec 32 := 2#32
  let c0_i32_98 : BitVec 32 := 0#32
  let v350 : BitVec 1 := Scalar.cmpi .eq c2_i32_97 c0_i32_98
  let c1_i32_99 : BitVec 32 := 1#32
  let v351 : BitVec 32 := Scalar.select v350 c1_i32_99 c2_i32_97
  let v352 : BitVec 32 := Scalar.remsi v349 v351
  let c0_i32_101 : BitVec 32 := 0#32
  let v354 : BitVec 1 := Scalar.cmpi .slt v352 c0_i32_101
  let c0_i32_102 : BitVec 32 := 0#32
  let v355 : BitVec 1 := Scalar.cmpi .slt v351 c0_i32_102
  let v356 : BitVec 1 := Scalar.xori v354 v355
  let c0_i32_100 : BitVec 32 := 0#32
  let v353 : BitVec 1 := Scalar.cmpi .ne v352 c0_i32_100
  let v357 : BitVec 1 := Scalar.andi v356 v353
  let v358 : BitVec 32 := Scalar.addi v352 v351
  let v359 : BitVec 32 := Scalar.select v357 v358 v352
  let v463 : Index := Scalar.indexCast v359
  let c384_147 : Index := 384#32
  let c0_148 : Index := 0#32
  ![v463.toNat, 384, 0]
def k0_mult21 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c4_i32_158 : BitVec 32 := 4#32
  let v492 : BitVec 32 := Scalar.muli arg12 c4_i32_158
  let c0_i32_159 : BitVec 32 := 0#32
  let v493 : BitVec 32 := Scalar.addi v492 c0_i32_159
  let c128_i32_160 : BitVec 32 := 128#32
  let v494 : BitVec 32 := Scalar.muli v493 c128_i32_160
  v494
def k0_mult22 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c4_i32_161 : BitVec 32 := 4#32
  let v496 : BitVec 32 := Scalar.muli arg12 c4_i32_161
  let c1_i32_162 : BitVec 32 := 1#32
  let v497 : BitVec 32 := Scalar.addi v496 c1_i32_162
  let c128_i32_163 : BitVec 32 := 128#32
  let v498 : BitVec 32 := Scalar.muli v497 c128_i32_163
  v498
def k0_mult23 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c4_i32_164 : BitVec 32 := 4#32
  let v500 : BitVec 32 := Scalar.muli arg12 c4_i32_164
  let c2_i32_165 : BitVec 32 := 2#32
  let v501 : BitVec 32 := Scalar.addi v500 c2_i32_165
  let c128_i32_166 : BitVec 32 := 128#32
  let v502 : BitVec 32 := Scalar.muli v501 c128_i32_166
  v502
def k0_mult24 (k0_t1 : Fin k0_t1_loop.trips) : BitVec 32 :=
  let c1_i32_45 : BitVec 32 := 1#32
  let c1_i32_47 : BitVec 32 := 1#32
  let arg12 : BitVec 32 := Scf.iv c1_i32_45 c1_i32_47 k0_t1
  let c4_i32_167 : BitVec 32 := 4#32
  let v504 : BitVec 32 := Scalar.muli arg12 c4_i32_167
  let c3_i32_168 : BitVec 32 := 3#32
  let v505 : BitVec 32 := Scalar.addi v504 c3_i32_168
  let c128_i32_169 : BitVec 32 := 128#32
  let v506 : BitVec 32 := Scalar.muli v505 c128_i32_169
  v506
def k0_off18 (k0_t1 : Fin k0_t1_loop.trips) (c0_i32_159 : BitVec 32) : Fin 3 → Nat :=
  let c0_170 : Index := 0#32
  let c1_i32_45 : BitVec 32 := 1#32
  let c1_i32_47 : BitVec 32 := 1#32
  let arg12 : BitVec 32 := Scf.iv c1_i32_45 c1_i32_47 k0_t1
  let c4_i32_158 : BitVec 32 := 4#32
  let v492 : BitVec 32 := Scalar.muli arg12 c4_i32_158
  let v493 : BitVec 32 := Scalar.addi v492 c0_i32_159
  let c128_i32_160 : BitVec 32 := 128#32
  let v494 : BitVec 32 := Scalar.muli v493 c128_i32_160
  let v495 : BitVec 32 := v494
  let v508 : Index := Scalar.indexCast v495
  let c0_171 : Index := 0#32
  ![0, v508.toNat, 0]
def k0_off19 (k0_t1 : Fin k0_t1_loop.trips) (c0_i32_159 : BitVec 32) : Fin 3 → Nat :=
  let c0_190 : Index := 0#32
  let c1_i32_45 : BitVec 32 := 1#32
  let c1_i32_47 : BitVec 32 := 1#32
  let arg12 : BitVec 32 := Scf.iv c1_i32_45 c1_i32_47 k0_t1
  let c4_i32_158 : BitVec 32 := 4#32
  let v492 : BitVec 32 := Scalar.muli arg12 c4_i32_158
  let v493 : BitVec 32 := Scalar.addi v492 c0_i32_159
  let c128_i32_160 : BitVec 32 := 128#32
  let v494 : BitVec 32 := Scalar.muli v493 c128_i32_160
  let v495 : BitVec 32 := v494
  let v548 : Index := Scalar.indexCast v495
  let c0_191 : Index := 0#32
  ![0, v548.toNat, 0]
def k0_off20 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c2_i32_354 : BitVec 32 := 2#32
  let c0_i32_355 : BitVec 32 := 0#32
  let v3180 : BitVec 1 := Scalar.cmpi .eq c2_i32_354 c0_i32_355
  let c1_i32_356 : BitVec 32 := 1#32
  let v3181 : BitVec 32 := Scalar.select v3180 c1_i32_356 c2_i32_354
  let v3182 : BitVec 32 := Scalar.remsi arg12 v3181
  let c0_i32_358 : BitVec 32 := 0#32
  let v3184 : BitVec 1 := Scalar.cmpi .slt v3182 c0_i32_358
  let c0_i32_359 : BitVec 32 := 0#32
  let v3185 : BitVec 1 := Scalar.cmpi .slt v3181 c0_i32_359
  let v3186 : BitVec 1 := Scalar.xori v3184 v3185
  let c0_i32_357 : BitVec 32 := 0#32
  let v3183 : BitVec 1 := Scalar.cmpi .ne v3182 c0_i32_357
  let v3187 : BitVec 1 := Scalar.andi v3186 v3183
  let v3188 : BitVec 32 := Scalar.addi v3182 v3181
  let v3189 : BitVec 32 := Scalar.select v3187 v3188 v3182
  let v3192 : Index := Scalar.indexCast v3189
  let c0_361 : Index := 0#32
  let c0_362 : Index := 0#32
  ![v3192.toNat, 0, 0]
def k0_off21 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c2_i32_354 : BitVec 32 := 2#32
  let c0_i32_355 : BitVec 32 := 0#32
  let v3180 : BitVec 1 := Scalar.cmpi .eq c2_i32_354 c0_i32_355
  let c1_i32_356 : BitVec 32 := 1#32
  let v3181 : BitVec 32 := Scalar.select v3180 c1_i32_356 c2_i32_354
  let v3182 : BitVec 32 := Scalar.remsi arg12 v3181
  let c0_i32_358 : BitVec 32 := 0#32
  let v3184 : BitVec 1 := Scalar.cmpi .slt v3182 c0_i32_358
  let c0_i32_359 : BitVec 32 := 0#32
  let v3185 : BitVec 1 := Scalar.cmpi .slt v3181 c0_i32_359
  let v3186 : BitVec 1 := Scalar.xori v3184 v3185
  let c0_i32_357 : BitVec 32 := 0#32
  let v3183 : BitVec 1 := Scalar.cmpi .ne v3182 c0_i32_357
  let v3187 : BitVec 1 := Scalar.andi v3186 v3183
  let v3188 : BitVec 32 := Scalar.addi v3182 v3181
  let v3189 : BitVec 32 := Scalar.select v3187 v3188 v3182
  let v3198 : Index := Scalar.indexCast v3189
  let c128_364 : Index := 128#32
  let c0_365 : Index := 0#32
  ![v3198.toNat, 128, 0]
def k0_off22 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c2_i32_354 : BitVec 32 := 2#32
  let c0_i32_355 : BitVec 32 := 0#32
  let v3180 : BitVec 1 := Scalar.cmpi .eq c2_i32_354 c0_i32_355
  let c1_i32_356 : BitVec 32 := 1#32
  let v3181 : BitVec 32 := Scalar.select v3180 c1_i32_356 c2_i32_354
  let v3182 : BitVec 32 := Scalar.remsi arg12 v3181
  let c0_i32_358 : BitVec 32 := 0#32
  let v3184 : BitVec 1 := Scalar.cmpi .slt v3182 c0_i32_358
  let c0_i32_359 : BitVec 32 := 0#32
  let v3185 : BitVec 1 := Scalar.cmpi .slt v3181 c0_i32_359
  let v3186 : BitVec 1 := Scalar.xori v3184 v3185
  let c0_i32_357 : BitVec 32 := 0#32
  let v3183 : BitVec 1 := Scalar.cmpi .ne v3182 c0_i32_357
  let v3187 : BitVec 1 := Scalar.andi v3186 v3183
  let v3188 : BitVec 32 := Scalar.addi v3182 v3181
  let v3189 : BitVec 32 := Scalar.select v3187 v3188 v3182
  let v3204 : Index := Scalar.indexCast v3189
  let c256_367 : Index := 256#32
  let c0_368 : Index := 0#32
  ![v3204.toNat, 256, 0]
def k0_off23 (k0_t1 : Fin k0_t1_loop.trips) : Fin 3 → Nat :=
  let c1_i32_45 : BitVec 32 := 1#32
  let c1_i32_47 : BitVec 32 := 1#32
  let arg12 : BitVec 32 := Scf.iv c1_i32_45 c1_i32_47 k0_t1
  let c2_i32_354 : BitVec 32 := 2#32
  let c0_i32_355 : BitVec 32 := 0#32
  let v3180 : BitVec 1 := Scalar.cmpi .eq c2_i32_354 c0_i32_355
  let c1_i32_356 : BitVec 32 := 1#32
  let v3181 : BitVec 32 := Scalar.select v3180 c1_i32_356 c2_i32_354
  let v3182 : BitVec 32 := Scalar.remsi arg12 v3181
  let c0_i32_358 : BitVec 32 := 0#32
  let v3184 : BitVec 1 := Scalar.cmpi .slt v3182 c0_i32_358
  let c0_i32_359 : BitVec 32 := 0#32
  let v3185 : BitVec 1 := Scalar.cmpi .slt v3181 c0_i32_359
  let v3186 : BitVec 1 := Scalar.xori v3184 v3185
  let c0_i32_357 : BitVec 32 := 0#32
  let v3183 : BitVec 1 := Scalar.cmpi .ne v3182 c0_i32_357
  let v3187 : BitVec 1 := Scalar.andi v3186 v3183
  let v3188 : BitVec 32 := Scalar.addi v3182 v3181
  let v3189 : BitVec 32 := Scalar.select v3187 v3188 v3182
  let v3210 : Index := Scalar.indexCast v3189
  let c384_370 : Index := 384#32
  let c0_371 : Index := 0#32
  ![v3210.toNat, 384, 0]
def k0_mult25 : BitVec 32 :=
  let c3584_i32 : BitVec 32 := 3584#32
  c3584_i32
def k0_mult26 : BitVec 32 :=
  let c3712_i32 : BitVec 32 := 3712#32
  c3712_i32
def k0_mult27 : BitVec 32 :=
  let c3840_i32 : BitVec 32 := 3840#32
  c3840_i32
def k0_mult28 : BitVec 32 :=
  let c3968_i32 : BitVec 32 := 3968#32
  c3968_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Merge.Row.lean ====
module
public import Idealize.ShloMosaic.Lib.Pipeline.ValueKit
@[expose] public section

/-
  One row of the end of the layer on the extended reals: the two mixers' outputs projected, gated and summed,
  the residual, the feed-forward block behind a root-mean-square normalisation, the last normalisation. And the
  two algebraic facts the kernel's order of operations needs: the normaliser of a row is a non-negative number
  below +∞, so it may be multiplied in after the first feed-forward product and after the rectifier, and a sum
  over the 4096 hidden units is the sum of its four quarters.
-/

noncomputable section

namespace Cert.Layer

open Idealize.ShloMosaic

/-- A row of the residual stream after the merge: `x + (σ(a) ⊙ (s·A) + σ(b) ⊙ (l·B))·O`. -/
def mergeRow (x : Fin 1024 → EReal) (s : Fin 512 → EReal) (l a b : Fin 1024 → EReal)
    (A : Fin 512 → Fin 1024 → EReal) (B O : Fin 1024 → Fin 1024 → EReal) (j : Fin 1024) : EReal :=
  x j + ∑ k, (Ideal.logistic (a k) * (∑ i, s i * A i k) + Ideal.logistic (b k) * (∑ i, l i * B i k)) * O k j

/-- The normaliser of a row: one over the root of the mean square plus the small constant. -/
def invRms (y : Fin 1024 → EReal) : EReal :=
  Ideal.rsqrt (Ideal.div (∑ k, y k * y k) (Ideal.ofBits .f32 0x44800000#32) + Ideal.ofBits .f32 0x358637BD#32)

/-- The rectified hidden unit `k` of the normalised row. -/
def hiddenUnit (y g : Fin 1024 → EReal) (U : Fin 1024 → Fin 4096 → EReal) (k : Fin 4096) : EReal :=
  max (∑ l, y l * invRms y * g l * U l k) 0

/-- A row after the feed-forward block with squared rectifier. -/
def ffRow (y g : Fin 1024 → EReal) (U : Fin 1024 → Fin 4096 → EReal) (W : Fin 4096 → Fin 1024 → EReal)
    (j : Fin 1024) : EReal :=
  y j + ∑ k, hiddenUnit y g U k * hiddenUnit y g U k * W k j

/-- The last normalisation of a row. -/
def normRow (z g : Fin 1024 → EReal) (j : Fin 1024) : EReal := z j * invRms z * g j

/-- A square of an extended real is not negative. -/
theorem mul_self_nonneg' (a : EReal) : 0 ≤ a * a := by
  rcases le_total 0 a with h | h
  · exact EReal.mul_nonneg h h
  · exact EReal.mul_nonneg_iff.mpr (.inr ⟨h, h⟩)

theorem width_pos : 0 < Ideal.ofBits .f32 0x44800000#32 := by
  simp [Ideal.ofBits, Ideal.ieee]
  rw [← EReal.coe_mul]
  exact EReal.coe_pos.mpr (by norm_num)

theorem small_pos : 0 < Ideal.ofBits .f32 0x358637BD#32 := by
  simp [Ideal.ofBits, Ideal.ieee]
  rw [← EReal.coe_mul]
  exact EReal.coe_pos.mpr (by norm_num)

/-- The normaliser is not negative and not +∞. -/
theorem invRms_bounds (y : Fin 1024 → EReal) : 0 ≤ invRms y ∧ invRms y ≠ ⊤ := by
  have hs : (0 : EReal) ≤ ∑ k, y k * y k := Finset.sum_nonneg fun k _ => mul_self_nonneg' (y k)
  have hd : (0 : EReal) ≤ Ideal.div (∑ k, y k * y k) (Ideal.ofBits .f32 0x44800000#32) := by
    unfold Ideal.div
    rw [if_neg width_pos.ne']
    exact EReal.mul_nonneg hs (EReal.inv_nonneg_of_nonneg width_pos.le)
  have hp : (0 : EReal) < Ideal.div (∑ k, y k * y k) (Ideal.ofBits .f32 0x44800000#32)
      + Ideal.ofBits .f32 0x358637BD#32 := lt_of_lt_of_le small_pos (le_add_of_nonneg_left hd)
  unfold invRms
  generalize Ideal.div (∑ k, y k * y k) (Ideal.ofBits .f32 0x44800000#32) + Ideal.ofBits .f32 0x358637BD#32 = v at hp
  induction v with
  | bot => simp at hp
  | top => exact ⟨le_refl (0 : EReal), EReal.zero_ne_top⟩
  | coe r =>
    have hr : 0 < r := by exact_mod_cast hp
    have e : Ideal.rsqrt (r : EReal) = ((Real.sqrt r)⁻¹ : ℝ) := by
      show (if r < 0 then ⊥ else if r = 0 then ⊤ else (((Real.sqrt r)⁻¹ : ℝ) : EReal)) = _
      rw [if_neg (not_lt.mpr hr.le), if_neg hr.ne']
    rw [e]
    exact ⟨by exact_mod_cast inv_nonneg.mpr (Real.sqrt_nonneg r), EReal.coe_ne_top _⟩

/-- A non-negative number below +∞ multiplies into a finite sum. -/
theorem sum_mul_of_bounds {n : Nat} (f : Fin n → EReal) {r : EReal} (h0 : 0 ≤ r) (ht : r ≠ ⊤) :
    (∑ k, f k) * r = ∑ k, f k * r := by
  have key : ∀ s : Finset (Fin n), (∑ k ∈ s, f k) * r = ∑ k ∈ s, f k * r := fun s => by
    induction s using Finset.cons_induction with
    | empty => simp
    | cons a s ha ih => rw [Finset.sum_cons, Finset.sum_cons, ← ih, EReal.right_distrib_of_nonneg_of_ne_top h0 ht]
  exact key _

/-- A non-negative factor goes through the rectifier. -/
theorem max_zero_mul {r : EReal} (a : EReal) (h0 : 0 ≤ r) : max a 0 * r = max (a * r) 0 := by
  rcases le_total 0 a with h | h
  · rw [max_eq_left h, max_eq_left (EReal.mul_nonneg h h0)]
  · rw [max_eq_right h, zero_mul, max_eq_right (EReal.mul_nonpos_iff.mpr (.inr ⟨h, h0⟩))]

/-- The hidden unit with the normaliser multiplied in last. -/
theorem hidden_late (y g : Fin 1024 → EReal) (u : Fin 1024 → EReal) :
    max (∑ l, y l * g l * u l) 0 * invRms y = max (∑ l, y l * invRms y * g l * u l) 0 := by
  obtain ⟨h0, ht⟩ := invRms_bounds y
  rw [max_zero_mul _ h0, sum_mul_of_bounds _ h0 ht]
  exact congrArg (max · 0) (Finset.sum_congr rfl fun l _ => by ac_rfl)

/-- A sum over 4096 indices in four quarters. -/
theorem sum_quarters (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  have h1 := Fin.sum_univ_add (a := 3072) (b := 1024) f
  have h2 := Fin.sum_univ_add (a := 2048) (b := 1024) fun k => f (Fin.castAdd 1024 k)
  have h3 := Fin.sum_univ_add (a := 1024) (b := 1024) fun k => f (Fin.castAdd 1024 (Fin.castAdd 1024 k))
  exact h1.trans (congrArg (· + _) (h2.trans (congrArg (· + _) h3)))

end Cert.Layer
-- ==== Proof.Merge.Block.lean ====
module
public import proofs.«01_k».proof.Proof.Gen.MergeIdeal.Frame
public import proofs.«01_k».proof.Proof.Merge.Row
@[expose] public section
set_option maxRecDepth 16384

/-
  One block of the kernel, read at an element: what the body stores at row `r`, column `j` of its block of 512 rows
  is the row function of `Row.lean` of row `r` of the staged blocks.
-/

noncomputable section

open Idealize.ShloMosaic Idealize.ShloMosaic.TcCoe Idealize.SL.Sem

namespace Cert.MergeIdeal.Block

open Cert.MergeIdeal Cert.MergeIdeal.Gen Cert.Layer

/-- The residual row the body computes from its staged blocks. -/
def stream (x0 : Vec Ideal S1x512x1024 .f32) (x1 : Vec Ideal S1x512x512 .bf16) (x2 : Vec Ideal S1x512x1024 .bf16)
    (x3 : Vec Ideal S1x512x2048 .bf16) (x4 : Vec Ideal S512x1024 .f32) (x5 : Vec Ideal S1024x1024 .f32)
    (x6 : Vec Ideal S1024x1024 .f32) (r : Fin 512) : Fin 1024 → EReal :=
  mergeRow (fun k => x0 (ix3 0 r k)) (fun i => x1 (ix3 0 r i)) (fun i => x2 (ix3 0 r i))
    (fun k => x3 (ix3 0 r ⟨k.val, by omega⟩)) (fun k => x3 (ix3 0 r ⟨1024 + k.val, by omega⟩))
    (fun i k => x4 (ix2 i k)) (fun i k => x5 (ix2 i k)) (fun k j => x6 (ix2 k j))

/-- The whole row the body stores. -/
def row (x0 : Vec Ideal S1x512x1024 .f32) (x1 : Vec Ideal S1x512x512 .bf16) (x2 : Vec Ideal S1x512x1024 .bf16)
    (x3 : Vec Ideal S1x512x2048 .bf16) (x4 : Vec Ideal S512x1024 .f32) (x5 : Vec Ideal S1024x1024 .f32)
    (x6 : Vec Ideal S1024x1024 .f32) (x7 : Vec Ideal S1x1024 .f32) (x8 : Vec Ideal S1024x4096 .bf16)
    (x9 : Vec Ideal S4096x1024 .bf16) (x10 : Vec Ideal S1x1024 .f32) (r : Fin 512) : Fin 1024 → EReal :=
  normRow (ffRow (stream x0 x1 x2 x3 x4 x5 x6 r) (fun k => x7 (ix2 0 k)) (fun l k => x8 (ix2 l k))
    (fun k j => x9 (ix2 k j))) (fun k => x10 (ix2 0 k))

variable (x0 : Vec Ideal S1x512x1024 .f32) (x1 : Vec Ideal S1x512x512 .bf16) (x2 : Vec Ideal S1x512x1024 .bf16)
  (x3 : Vec Ideal S1x512x2048 .bf16) (x4 : Vec Ideal S512x1024 .f32) (x5 : Vec Ideal S1024x1024 .f32)
  (x6 : Vec Ideal S1024x1024 .f32) (x7 : Vec Ideal S1x1024 .f32) (x8 : Vec Ideal S1024x4096 .bf16)
  (x9 : Vec Ideal S4096x1024 .bf16) (x10 : Vec Ideal S1x1024 .f32)

theorem stream_at (r : Fin 512) (j : Fin 1024) :
    k0_pay9 x0 x1 x2 x3 x4 x5 x6 x7 x8 x9 x10 (ix2 r j) = stream x0 x1 x2 x3 x4 x5 x6 r j := by
  unfold stream mergeRow
  pointwise [k0_pay9, k0_pay1]

theorem inv_at (r : Fin 512) :
    k0_pay4 (k0_pay10 x0 x1 x2 x3 x4 x5 x6 x7 x8 x9 x10) (k0_pay11 x0 x1 x2 x3 x4 x5 x6 x7 x8 x9 x10) (ix2 r 0)
      = invRms (stream x0 x1 x2 x3 x4 x5 x6 r) := by
  unfold invRms
  simp only [← stream_at x0 x1 x2 x3 x4 x5 x6 x7 x8 x9 x10]
  pointwise [k0_pay4, k0_pay10, k0_pay11, k0_pay3, k0_pay2, k0_pay9]

theorem scaled_at (r : Fin 512) (l : Fin 1024) :
    k0_pay5 (k0_pay9 x0 x1 x2 x3 x4 x5 x6 x7 x8 x9 x10) x7 (ix2 r l)
      = stream x0 x1 x2 x3 x4 x5 x6 r l * x7 (ix2 0 l) := by
  rw [← stream_at x0 x1 x2 x3 x4 x5 x6 x7 x8 x9 x10]
  pointwise [k0_pay5]

theorem out_at (r : Fin 512) (j : Fin 1024) :
    out0_11 x0 x1 x2 x3 x4 x5 x6 x7 x8 x9 x10 (ix3 0 r j) = row x0 x1 x2 x3 x4 x5 x6 x7 x8 x9 x10 r j := by
  have hi := inv_at x0 x1 x2 x3 x4 x5 x6 x7 x8 x9 x10 r
  have hs := scaled_at x0 x1 x2 x3 x4 x5 x6 x7 x8 x9 x10 r
  have hx := stream_at x0 x1 x2 x3 x4 x5 x6 x7 x8 x9 x10 r
  frame_out
  pointwise [k0_pay8, k0_pay6, k0_pay7, r0_7, r0_8, r0_9, r0_10, r0_11, r0_12, r0_13, r0_14]
  simp only [hi, hs, hx, hidden_late]
  unfold row normRow invRms ffRow
  simp only [sum_quarters]
  rfl

end Cert.MergeIdeal.Block
-- ==== Proof.Merge.Final.lean ====
module
public import proofs.«01_k».proof.Proof.Gen.MergeIdeal.Value
public import proofs.«01_k».proof.Proof.Gen.MergeRefIdeal.Run
public import proofs.«01_k».proof.Proof.Merge.Block
@[expose] public section
set_option maxRecDepth 16384

/-
  The kernel's array after the run and the reference's result, both read at an element as the same row function
  of the arguments.
-/

noncomputable section

open Idealize.ShloMosaic Idealize.ShloMosaic.TcCoe Idealize.SL.Sem

namespace Cert.MergeRefIdeal.Rows

open Cert.MergeRefIdeal Cert.MergeRefIdeal.Gen Cert.Layer

/-- The residual stream after the merge, as the reference's operations. -/
def streamArr (x0 : FVec Ideal S8x4096x1024 .f32) (x1 : FVec Ideal S8x4096x512 .f32)
    (x2 x3 x4 : FVec Ideal S8x4096x1024 .f32) (x5 : FVec Ideal S512x1024 .f32)
    (x6 x7 : FVec Ideal S1024x1024 .f32) : FVec Ideal S8x4096x1024 .f32 :=
  addf x0 (Host.dotGeneral dot_S8x4096x1024_S1024x1024_S8x4096x1024_2_0_01_1_n_n none
    (addf
      (mulf (Host.divf (broadcastInDim S8x4096x1024 ![] bcast_S_S8x4096x1024 (constant S_ .f32 0x3F800000#32))
          (addf (broadcastInDim S8x4096x1024 ![] bcast_S_S8x4096x1024 (constant S_ .f32 0x3F800000#32))
            (Host.exp (Host.negf x3))))
        (Host.dotGeneral dot_S8x4096x512_S512x1024_S8x4096x1024_2_0_01_1_n_n none x1 x5))
      (mulf (Host.divf (broadcastInDim S8x4096x1024 ![] bcast_S_S8x4096x1024 (constant S_ .f32 0x3F800000#32))
          (addf (broadcastInDim S8x4096x1024 ![] bcast_S_S8x4096x1024 (constant S_ .f32 0x3F800000#32))
            (Host.exp (Host.negf x4))))
        (Host.dotGeneral dot_S8x4096x1024_S1024x1024_S8x4096x1024_2_0_01_1_n_n none x2 x6))) x7)

/-- The normalised array times its weight, as the reference's operations. -/
def normArr (y : FVec Ideal S8x4096x1024 .f32) (g : FVec Ideal S1024 .f32) : FVec Ideal S8x4096x1024 .f32 :=
  mulf (mulf y (broadcastInDim S8x4096x1024 ![0, 1, 2] bcast_S8x4096x1_S8x4096x1024_0_1_2
      (Host.rsqrt (addf
        (Host.divf
          (broadcastInDim S8x4096x1 ![0, 1] bcast_S8x4096_S8x4096x1_0_1
            (Host.reduceAdd (mulf y y) (constant S_ .f32 0x00000000#32) reducesTo_S8x4096x1024_S8x4096_d2 h_S_))
          (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

/-- The rectified first product of the feed-forward block. -/
def hiddenArr (h : FVec Ideal S8x4096x1024 .f32) (U : FVec Ideal S1024x4096 .f32) : FVec Ideal S8x4096x4096 .f32 :=
  maximumf (Host.dotGeneral dot_S8x4096x1024_S1024x4096_S8x4096x4096_2_0_01_1_n_n none h U)
    (broadcastInDim S8x4096x4096 ![] bcast_S_S8x4096x4096 (constant S_ .f32 0x00000000#32))

/-- The stream after the feed-forward block. -/
def ffArr (y : FVec Ideal S8x4096x1024 .f32) (g : FVec Ideal S1024 .f32) (U : FVec Ideal S1024x4096 .f32)
    (W : FVec Ideal S4096x1024 .f32) : FVec Ideal S8x4096x1024 .f32 :=
  addf y (Host.dotGeneral dot_S8x4096x4096_S4096x1024_S8x4096x1024_2_0_01_1_n_n none
    (mulf (hiddenArr (normArr y g) U) (hiddenArr (normArr y g) U)) W)

theorem stream_at (x0 : FVec Ideal S8x4096x1024 .f32) (x1 : FVec Ideal S8x4096x512 .f32)
    (x2 x3 x4 : FVec Ideal S8x4096x1024 .f32) (x5 : FVec Ideal S512x1024 .f32)
    (x6 x7 : FVec Ideal S1024x1024 .f32) (b : Fin 8) (t : Fin 4096) (j : Fin 1024) :
    streamArr x0 x1 x2 x3 x4 x5 x6 x7 (ix3 b t j)
      = mergeRow (fun k => x0 (ix3 b t k)) (fun i => x1 (ix3 b t i)) (fun i => x2 (ix3 b t i))
          (fun k => x3 (ix3 b t k)) (fun k => x4 (ix3 b t k)) (fun i k => x5 (ix2 i k)) (fun i k => x6 (ix2 i k))
          (fun k j => x7 (ix2 k j)) j := by
  unfold mergeRow
  pointwise [streamArr]
  rfl

theorem norm_at (y : FVec Ideal S8x4096x1024 .f32) (g : FVec Ideal S1024 .f32) (b : Fin 8) (t : Fin 4096)
    (j : Fin 1024) :
    normArr y g (ix3 b t j) = normRow (fun k => y (ix3 b t k)) (fun k => g (ix1 k)) j := by
  unfold normRow invRms
  pointwise [normArr]

theorem hidden_at (y : FVec Ideal S8x4096x1024 .f32) (g : FVec Ideal S1024 .f32) (U : FVec Ideal S1024x4096 .f32)
    (b : Fin 8) (t : Fin 4096) (k : Fin 4096) :
    hiddenArr (normArr y g) U (ix3 b t k)
      = hiddenUnit (fun k => y (ix3 b t k)) (fun k => g (ix1 k)) (fun l k => U (ix2 l k)) k := by
  unfold hiddenUnit
  pointwise [hiddenArr]
  simp only [norm_at, normRow]

theorem ff_at (y : FVec Ideal S8x4096x1024 .f32) (g : FVec Ideal S1024 .f32) (U : FVec Ideal S1024x4096 .f32)
    (W : FVec Ideal S4096x1024 .f32) (b : Fin 8) (t : Fin 4096) (j : Fin 1024) :
    ffArr y g U W (ix3 b t j) = ffRow (fun k => y (ix3 b t k)) (fun k => g (ix1 k)) (fun l k => U (ix2 l k))
      (fun k j => W (ix2 k j)) j := by
  unfold ffRow
  pointwise [ffArr]
  simp only [hidden_at]

variable (m : (ℓ : Loc nD τ sig) → Buf (Elt Ideal) ℓ)

/-- The reference's result is the last normalisation of the feed-forward block of the stream. -/
theorem res_eq (c : Dev nD) : Value.res_out0 m c
    = normArr (ffArr (streamArr (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)))
        (m ((c.tc : Thread nD τ).loc main_arg8)) (m ((c.tc : Thread nD τ).loc main_arg9))
        (m ((c.tc : Thread nD τ).loc main_arg10))) (m ((c.tc : Thread nD τ).loc main_arg11)) := by
  show Value.res_main_v49 m c = _
  unfold Value.res_main_v49
  rfl

end Cert.MergeRefIdeal.Rows

namespace Cert.MergeIdeal.Rows

open Cert.MergeIdeal Cert.MergeIdeal.Gen Cert.Layer

variable (m : (ℓ : Loc nD τ sig) → Buf (Elt Ideal) ℓ)

/-- The block of rows each window stages at a grid point. -/
theorem idx : ∀ t : Fin cfg0.N, win0_0.index t = ![t.val / 8, t.val % 8, 0]
    ∧ win0_1.index t = ![t.val / 8, t.val % 8, 0] ∧ win0_2.index t = ![t.val / 8, t.val % 8, 0]
    ∧ win0_3.index t = ![t.val / 8, t.val % 8, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val / 8, t.val % 8, 0] :=
  (by decide +kernel : ∀ t : Fin grid0.N, _)

/-- The result as one function of the arguments, in the reference's operations. -/
abbrev REF (c : Dev nD) : FVec Ideal Cert.MergeRefIdeal.S8x4096x1024 .f32 :=
  Cert.MergeRefIdeal.Rows.normArr (Cert.MergeRefIdeal.Rows.ffArr
    (Cert.MergeRefIdeal.Rows.streamArr (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7)))
    (m ((c : Thread nD τ).loc main_arg8)) (m ((c : Thread nD τ).loc main_arg9))
    (m ((c : Thread nD τ).loc main_arg10))) (m ((c : Thread nD τ).loc main_arg11))

/-- The batch a grid point works on. -/
abbrev batch (t : Fin cfg0.N) : Fin 8 := ⟨t.val / 8, by have := t.isLt; have : cfg0.N = 64 := rfl; omega⟩

/-- The row of the array that row `r` of a grid point's block is. -/
abbrev rowOf (t : Fin cfg0.N) (r : Fin 512) : Fin 4096 := ⟨t.val % 8 * 512 + r.val, by omega⟩

section reads

variable (c : Dev nD) (t : Fin cfg0.N) (r : Fin 512)

theorem read0 (k : Fin 1024) : (show FVec Ideal S1x512x1024 .f32 from iblk m c 0 t) (ix3 0 r k)
    = (show FVec Ideal S8x4096x1024 .f32 from m ((c : Thread nD τ).loc main_arg0)) (ix3 (batch t) (rowOf t r) k) := by
  blk_point [iblk, V, idx t]

theorem read1 (k : Fin 512) : (show FVec Ideal S1x512x512 .bf16 from iblk m c 1 t) (ix3 0 r k)
    = (show FVec Ideal S8x4096x512 .f32 from m ((c : Thread nD τ).loc main_arg1)) (ix3 (batch t) (rowOf t r) k) := by
  blk_point [iblk, V, idx t]

theorem read2 (k : Fin 1024) : (show FVec Ideal S1x512x1024 .bf16 from iblk m c 2 t) (ix3 0 r k)
    = (show FVec Ideal S8x4096x1024 .f32 from m ((c : Thread nD τ).loc main_arg2)) (ix3 (batch t) (rowOf t r) k) := by
  blk_point [iblk, V, idx t]

theorem read3a (k : Fin 1024) :
    (show FVec Ideal S1x512x2048 .bf16 from iblk m c 3 t) (ix3 0 r ⟨k.val, by omega⟩)
      = (show FVec Ideal S8x4096x1024 .f32 from m ((c : Thread nD τ).loc main_arg3)) (ix3 (batch t) (rowOf t r) k) := by
  blk_simp [iblk, idx t]
  entry_read
  pointwise
  rw [dif_pos (by blk_simp [idx t]; dsimp only; omega)]
  blk_ext [idx t]

theorem read3b (k : Fin 1024) :
    (show FVec Ideal S1x512x2048 .bf16 from iblk m c 3 t) (ix3 0 r ⟨1024 + k.val, by omega⟩)
      = (show FVec Ideal S8x4096x1024 .f32 from m ((c : Thread nD τ).loc main_arg4)) (ix3 (batch t) (rowOf t r) k) := by
  blk_simp [iblk, idx t]
  entry_read
  pointwise
  rw [dif_neg (by blk_simp [idx t]; dsimp only; omega)]
  blk_ext [idx t]

theorem read4 (i : Fin 512) (k : Fin 1024) : (show FVec Ideal S512x1024 .f32 from iblk m c 4 t) (ix2 i k)
    = (show FVec Ideal S512x1024 .f32 from m ((c : Thread nD τ).loc main_arg5)) (ix2 i k) := by
  blk_point [iblk, V, idx t]

theorem read5 (i k : Fin 1024) : (show FVec Ideal S1024x1024 .f32 from iblk m c 5 t) (ix2 i k)
    = (show FVec Ideal S1024x1024 .f32 from m ((c : Thread nD τ).loc main_arg6)) (ix2 i k) := by
  blk_point [iblk, V, idx t]

theorem read6 (i k : Fin 1024) : (show FVec Ideal S1024x1024 .f32 from iblk m c 6 t) (ix2 i k)
    = (show FVec Ideal S1024x1024 .f32 from m ((c : Thread nD τ).loc main_arg7)) (ix2 i k) := by
  blk_point [iblk, V, idx t]

theorem read7 (k : Fin 1024) : (show FVec Ideal S1x1024 .f32 from iblk m c 7 t) (ix2 0 k)
    = (show FVec Ideal S1024 .f32 from m ((c : Thread nD τ).loc main_arg8)) (ix1 k) := by
  blk_point [iblk, V, idx t]

theorem read8 (l : Fin 1024) (k : Fin 4096) : (show FVec Ideal S1024x4096 .bf16 from iblk m c 8 t) (ix2 l k)
    = (show FVec Ideal S1024x4096 .f32 from m ((c : Thread nD τ).loc main_arg9)) (ix2 l k) := by
  blk_point [iblk, V, idx t]

theorem read9 (k : Fin 4096) (j : Fin 1024) : (show FVec Ideal S4096x1024 .bf16 from iblk m c 9 t) (ix2 k j)
    = (show FVec Ideal S4096x1024 .f32 from m ((c : Thread nD τ).loc main_arg10)) (ix2 k j) := by
  blk_point [iblk, V, idx t]

theorem read10 (k : Fin 1024) : (show FVec Ideal S1x1024 .f32 from iblk m c 10 t) (ix2 0 k)
    = (show FVec Ideal S1024 .f32 from m ((c : Thread nD τ).loc main_arg11)) (ix1 k) := by
  blk_point [iblk, V, idx t]

end reads

/-- The row a grid point stores is the reference's row. -/
theorem row_at (c : Dev nD) (t : Fin cfg0.N) (r : Fin 512) (j : Fin 1024) :
    Block.row (iblk m c 0 t) (iblk m c 1 t) (iblk m c 2 t) (iblk m c 3 t) (iblk m c 4 t) (iblk m c 5 t)
      (iblk m c 6 t) (iblk m c 7 t) (iblk m c 8 t) (iblk m c 9 t) (iblk m c 10 t) r j
      = REF m c (ix3 (batch t) (rowOf t r) j) := by
  refine Eq.trans ?_ (Cert.MergeRefIdeal.Rows.norm_at _ _ _ _ _).symm
  simp only [Cert.MergeRefIdeal.Rows.ff_at, Cert.MergeRefIdeal.Rows.stream_at]
  unfold Block.row Block.stream
  have e0 := fun k => read0 m c t r k
  have e1 := fun k => read1 m c t r k
  have e2 := fun k => read2 m c t r k
  have e3 := fun k => read3a m c t r k
  have e3' := fun k => read3b m c t r k
  have e4 := fun i k => read4 m c t i k
  have e5 := fun i k => read5 m c t i k
  have e6 := fun i k => read6 m c t i k
  have e7 := fun k => read7 m c t k
  have e8 := fun l k => read8 m c t l k
  have e9 := fun k j => read9 m c t k j
  have e10 := fun k => read10 m c t k
  exact congr (congr (congrArg normRow (congr (congr (congr (congrArg ffRow (funext fun j =>
      congrFun (congr (congr (congr (congr (congr (congr (congr (congrArg mergeRow (funext e0)) (funext e1)) (funext e2))
        (funext e3)) (funext e3')) (funext fun i => funext (e4 i))) (funext fun i => funext (e5 i)))
        (funext fun i => funext (e6 i))) j)) (funext e7)) (funext fun l => funext (e8 l))) (funext fun k => funext (e9 k))))
    (funext e10)) rfl

/-- The result array after the run. -/
theorem final (c : Dev nD) : (dats m 0 c).arrAt 11 (cfgs 0).N = REF m c := by
  refine (dats m 0 c).arrAt_eq_of_covers 11 _ (by decide +kernel) fun t _ y => ?_
  blk_simp
  rw [after0_11]
  idx_vars y
  obtain rfl : y0 = 0 := Subsingleton.elim _ _
  refine (Block.out_at _ _ _ _ _ _ _ _ _ _ _ y1 y2).trans ((row_at m c t y1 y2).trans ?_)
  refine congrArg (REF m c) ?_
  blk_ext [idx t]

end Cert.MergeIdeal.Rows
-- ==== Proof.Merge.Claims.lean ====
module
public import proofs.«01_k».proof.Defs
public import proofs.«01_k».proof.Proof.Gen.Merge.Frame
public import proofs.«01_k».proof.Proof.Gen.MergeRefIdeal.Run
public import proofs.«01_k».proof.Proof.Merge.Final
public import Idealize.ShloMosaic.Lib.Claim
public import Idealize.ShloMosaic.Lib.Quiescent
@[expose] public section

/-
  The claims about the end of the layer: the merge of the two mixers, the output projection, the feed-forward
  block and the last normalisation.
-/

noncomputable section

namespace Cert.Merge.Claims

open Idealize.ShloMosaic Idealize.ShloMosaic.TcCoe Idealize.SL.Sem

theorem frame : quiescent_Merge (hMerge := Cert.Merge.Gen.facts) := fun m ρ _ => Cert.Merge.Gen.frame m ρ

theorem frameIdeal : quiescent_MergeIdeal (hMergeIdeal := Cert.MergeIdeal.Gen.facts) :=
  fun m ρ _ => Cert.MergeIdeal.Gen.frame m ρ

theorem frameRef : quiescent_MergeRefIdeal (hMergeRefIdeal := Cert.MergeRefIdeal.Gen.facts) := fun m ρ _ =>
  (θ_run Cert.MergeRefIdeal.defs _ _).mono
    (fun r h => ⟨fun c => (h c).2, sem_eq_zero_of_no_sems (by decide) r.2⟩) (Cert.MergeRefIdeal.Value.run m ρ)

theorem preserves : preserves_Merge_MergeIdeal := trivial

theorem algebraic : algebraic_MergeIdeal_MergeRefIdeal (hMergeIdeal := Cert.MergeIdeal.Gen.facts)
    (hMergeRefIdeal := Cert.MergeRefIdeal.Gen.facts) := by
  pair_intro
  · run_from Cert.MergeIdeal.Value.run_blocks m g
  · run_from Cert.MergeRefIdeal.Value.run m' g'
    refine (Cert.MergeRefIdeal.Rows.res_eq m' c).trans ?_
    obtain ⟨h0, h1, h2, h3, h4, h5, h6, h7, h8, h9, h10, h11⟩ := hagree c
    rw [h0, h1, h2, h3, h4, h5, h6, h7, h8, h9, h10, h11]
    exact (Cert.MergeIdeal.Rows.final m c).symm

end Cert.Merge.Claims
-- ==== Proof.Proj.Body.lean ====
module

public import proofs.«01_k».proof.Proof.Gen.ProjIdeal.Launch
public import proofs.«01_k».proof.Proof.Gen.ProjIdeal.Skeleton
public import proofs.«01_k».proof.Proof.Gen.ProjIdeal.Points
public import proofs.«01_k».proof.Proof.Gen.ProjIdeal.Frame
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.UnfoldOut

@[expose] public section

/-
  One grid point of the input projection, run once for any values. The body keeps a half-precision copy of the last
  2048 columns of the weight in a buffer of its own: the first point writes it, every point reads it. The block of the
  weight that the copy is cut from reaches past the end of the array, so the buffer it arrives in ends with values
  nothing names; no load touches them.
-/

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-! ## The rectangles the body loads and stores -/

abbrev rRows : Rect S1x512x1024 := Rect.unit (s := S1x512x1024) ![0, 0, 0] S1x512x1024.size inb_S1x512x1024_S1x512x1024_0_0_0
abbrev rNorm : Rect S1x1024 := Rect.unit (s := S1x1024) ![0, 0] S1x1024.size inb_S1x1024_S1x1024_0_0
abbrev rLow : Rect S1024x2304 := Rect.unit (s := S1024x2304) ![0, 0] S1024x128.size inb_S1024x2304_S1024x128_0_0
abbrev rGate : Rect S1024x2304 := Rect.unit (s := S1024x2304) ![0, 16] S1024x2048.size inb_S1024x2304_S1024x2048_0_16
abbrev rUp : Rect S128x512 := Rect.unit (s := S128x512) ![0, 0] S128x512.size inb_S128x512_S128x512_0_0
abbrev rBias : Rect S1x512 := Rect.unit (s := S1x512) ![0, 0] S1x512.size inb_S1x512_S1x512_0_0
abbrev rQ : Rect S1024x4608 := Rect.unit (s := S1024x4608) ![0, 0] S1024x512.size inb_S1024x4608_S1024x512_0_0
abbrev rK : Rect S1024x4608 := Rect.unit (s := S1024x4608) ![0, 512] S1024x512.size inb_S1024x4608_S1024x512_0_512
abbrev rV : Rect S1024x4608 := Rect.unit (s := S1024x4608) ![0, 1024] S1024x512.size inb_S1024x4608_S1024x512_0_1024
abbrev rQK : Rect S1024x4608 := Rect.unit (s := S1024x4608) ![0, 1536] S1024x1024.size inb_S1024x4608_S1024x1024_0_1536
abbrev rGV : Rect S1024x4608 := Rect.unit (s := S1024x4608) ![0, 2560] S1024x1024.size inb_S1024x4608_S1024x1024_0_2560
abbrev rGO : Rect S1024x4608 := Rect.unit (s := S1024x4608) ![0, 3584] S1024x1024.size inb_S1024x4608_S1024x1024_0_3584
abbrev rCopy : Rect S1024x2048 := Rect.unit (s := S1024x2048) ![0, 0] S1024x2048.size inb_S1024x2048_S1024x2048_0_0
abbrev rCopy0 : Rect S1024x2048 := Rect.unit (s := S1024x2048) ![0, 0] S1024x1024.size inb_S1024x2048_S1024x1024_0_0
abbrev rCopy1 : Rect S1024x2048 := Rect.unit (s := S1024x2048) ![0, 1024] S1024x1024.size inb_S1024x2048_S1024x1024_0_1024
abbrev rHalf : Rect S1x512x512 := Rect.unit (s := S1x512x512) ![0, 0, 0] S1x512x512.size inb_S1x512x512_S1x512x512_0_0_0
abbrev rGate0 : Rect S1x512x2048 := Rect.unit (s := S1x512x2048) ![0, 0, 0] S1x512x1024.size inb_S1x512x2048_S1x512x1024_0_0_0
abbrev rGate1 : Rect S1x512x2048 := Rect.unit (s := S1x512x2048) ![0, 0, 1024] S1x512x1024.size inb_S1x512x2048_S1x512x1024_0_0_1024
abbrev rDec0 : Rect S1x512x512 := Rect.unit (s := S1x512x512) ![0, 0, 0] S1x128x512.size inb_S1x512x512_S1x128x512_0_0_0
abbrev rDec1 : Rect S1x512x512 := Rect.unit (s := S1x512x512) ![0, 128, 0] S1x128x512.size inb_S1x512x512_S1x128x512_0_128_0
abbrev rDec2 : Rect S1x512x512 := Rect.unit (s := S1x512x512) ![0, 256, 0] S1x128x512.size inb_S1x512x512_S1x128x512_0_256_0
abbrev rDec3 : Rect S1x512x512 := Rect.unit (s := S1x512x512) ![0, 384, 0] S1x128x512.size inb_S1x512x512_S1x128x512_0_384_0

/-! ## What the body computes from its blocks -/

/-- The inverse root mean square of the block's rows, and the rows times the norm's weight. -/
def inv (x0 : Vec F S1x512x1024 .f32) : FVec F S512x1 .f32 := k0_pay7 (View.ld x0 rRows)
def scaled (x0 : Vec F S1x512x1024 .f32) (x1 : Vec F S1x1024 .f32) : FVec F S512x1024 .bf16 := k0_pay8 (View.ld x0 rRows) (View.ld x1 rNorm)
/-- The decay gate before its expansion, and its logarithm in three parts of falling size. -/
def low (x0 : Vec F S1x512x1024 .f32) (x1 : Vec F S1x1024 .f32) (wl : Vec F S1024x128 .f32) : FVec F S512x128 .bf16 :=
  k0_pay9 (View.ld x0 rRows) (View.ld x1 rNorm) wl
def log0 (x0 : Vec F S1x512x1024 .f32) (x1 : Vec F S1x1024 .f32) (wl : Vec F S1024x128 .f32) (x4 : Vec F S128x512 .bf16) (x5 : Vec F S1x512 .f32) : FVec F S512x512 .bf16 :=
  k0_pay14 (low x0 x1 wl) (View.ld x4 rUp) (View.ld x5 rBias)
def log1 (x0 : Vec F S1x512x1024 .f32) (x1 : Vec F S1x1024 .f32) (wl : Vec F S1024x128 .f32) (x4 : Vec F S128x512 .bf16) (x5 : Vec F S1x512 .f32) : FVec F S512x512 .bf16 :=
  k0_pay16 (low x0 x1 wl) (View.ld x4 rUp) (View.ld x5 rBias)
def log2 (x0 : Vec F S1x512x1024 .f32) (x1 : Vec F S1x1024 .f32) (wl : Vec F S1024x128 .f32) (x4 : Vec F S128x512 .bf16) (x5 : Vec F S1x512 .f32) : FVec F S512x512 .bf16 :=
  k0_pay17 (low x0 x1 wl) (View.ld x4 rUp) (View.ld x5 rBias)

/-- The copy of the weight's last columns that the first point leaves in the body's own buffer. -/
def copyOf (wg : Vec F S1024x2048 .f32) : Vec F S1024x2048 .bf16 := View.canon [⟨rCopy, k0_pay5 wg⟩]

/-- Each result's block, from the blocks the body reads (`wl` the decay gate's columns, `s` the copy). -/
def out6 (x0 : Vec F S1x512x1024 .f32) (x1 : Vec F S1x1024 .f32) (x2 : Vec F S1024x4608 .f32) : Vec F S1x512x512 .bf16 :=
  View.canon [⟨rHalf, k0_pay11 (k0_pay10 (View.ld x0 rRows) (View.ld x1 rNorm) (View.ld x2 rQ))⟩]
def out7 (x0 : Vec F S1x512x1024 .f32) (x1 : Vec F S1x1024 .f32) (x2 : Vec F S1024x4608 .f32) : Vec F S1x512x512 .bf16 :=
  View.canon [⟨rHalf, k0_pay12 (inv x0) (scaled x0 x1) (View.ld x2 rK)⟩]
def out8 (x0 : Vec F S1x512x1024 .f32) (x1 : Vec F S1x1024 .f32) (x2 : Vec F S1024x4608 .f32) : Vec F S1x512x512 .bf16 :=
  View.canon [⟨rHalf, k0_pay18 (inv x0) (scaled x0 x1) (View.ld x2 rV)⟩]
def out9 (x0 : Vec F S1x512x1024 .f32) (x1 : Vec F S1x1024 .f32) (x2 : Vec F S1024x4608 .f32) : Vec F S1x512x1024 .bf16 :=
  View.canon [⟨rRows, k0_pay19 (inv x0) (scaled x0 x1) (View.ld x2 rQK)⟩]
def out10 (x0 : Vec F S1x512x1024 .f32) (x1 : Vec F S1x1024 .f32) (x2 : Vec F S1024x4608 .f32) : Vec F S1x512x1024 .bf16 :=
  View.canon [⟨rRows, k0_pay1 (k0_pay26 (inv x0) (scaled x0 x1) (View.ld x2 rGV))⟩]
def out11 (x0 : Vec F S1x512x1024 .f32) (x1 : Vec F S1x1024 .f32) (x2 : Vec F S1024x4608 .f32) : Vec F S1x512x1024 .bf16 :=
  View.canon [⟨rRows, k0_pay2 (inv x0) (scaled x0 x1) (View.ld x2 rGO)⟩]
def out12 (x0 : Vec F S1x512x1024 .f32) (x1 : Vec F S1x1024 .f32) (s : Vec F S1024x2048 .bf16) : Vec F S1x512x2048 .bf16 :=
  View.canon [⟨rGate1, k0_pay4 (inv x0) (scaled x0 x1) (View.ld s rCopy1)⟩, ⟨rGate0, k0_pay3 (inv x0) (scaled x0 x1) (View.ld s rCopy0)⟩]
def out13 (x0 : Vec F S1x512x1024 .f32) (x1 : Vec F S1x1024 .f32) (wl : Vec F S1024x128 .f32) (x4 : Vec F S128x512 .bf16) (x5 : Vec F S1x512 .f32) : Vec F S1x512x512 .f32 :=
  View.canon [⟨rDec3, k0_pay25 (log0 x0 x1 wl x4 x5) (log1 x0 x1 wl x4 x5) (log2 x0 x1 wl x4 x5) (k0_pay20 (F := F))⟩,
    ⟨rDec2, k0_pay24 (log0 x0 x1 wl x4 x5) (log1 x0 x1 wl x4 x5) (log2 x0 x1 wl x4 x5) (k0_pay20 (F := F))⟩,
    ⟨rDec1, k0_pay23 (log0 x0 x1 wl x4 x5) (log1 x0 x1 wl x4 x5) (log2 x0 x1 wl x4 x5) (k0_pay20 (F := F))⟩,
    ⟨rDec0, k0_pay22 (log1 x0 x1 wl x4 x5) (log2 x0 x1 wl x4 x5) (k0_pay20 (F := F)) (k0_pay21 (log0 x0 x1 wl x4 x5))⟩]

/-! ## The stores of each result cover its block -/

theorem coverHalf (p : Vec F S1x512x512 .bf16) (y : S1x512x512.Idx) :
    ∃ pc ∈ ([⟨rHalf, p⟩] : List (View.Piece (Elt F) S1x512x512 .bf16)), y ∈ pc.1.set :=
  View.cover_of_tiled [⟨rHalf, p⟩] S1x512x512.size (by rfl) y
theorem coverRows (p : Vec F S1x512x1024 .bf16) (y : S1x512x1024.Idx) :
    ∃ pc ∈ ([⟨rRows, p⟩] : List (View.Piece (Elt F) S1x512x1024 .bf16)), y ∈ pc.1.set :=
  View.cover_of_tiled [⟨rRows, p⟩] S1x512x1024.size (by rfl) y
theorem coverCopy (p : Vec F S1024x2048 .bf16) (y : S1024x2048.Idx) :
    ∃ pc ∈ ([⟨rCopy, p⟩] : List (View.Piece (Elt F) S1024x2048 .bf16)), y ∈ pc.1.set :=
  View.cover_of_tiled [⟨rCopy, p⟩] S1024x2048.size (by rfl) y
theorem coverGate (p q : Vec F S1x512x1024 .bf16) (y : S1x512x2048.Idx) :
    ∃ pc ∈ ([⟨rGate1, p⟩, ⟨rGate0, q⟩] : List (View.Piece (Elt F) S1x512x2048 .bf16)), y ∈ pc.1.set :=
  View.cover_of_tiled [⟨rGate1, p⟩, ⟨rGate0, q⟩] S1x512x1024.size (by rfl) y
theorem coverDec (p q r s : Vec F S1x128x512 .f32) (y : S1x512x512.Idx) :
    ∃ pc ∈ ([⟨rDec3, p⟩, ⟨rDec2, q⟩, ⟨rDec1, r⟩, ⟨rDec0, s⟩] : List (View.Piece (Elt F) S1x512x512 .f32)), y ∈ pc.1.set :=
  View.cover_of_tiled [⟨rDec3, p⟩, ⟨rDec2, q⟩, ⟨rDec1, r⟩, ⟨rDec0, s⟩] S1x128x512.size (by rfl) y

/-- The copy read back by halves where it was just stored. -/
theorem readGate (a : Vec F S1x512x1024 .f32) (b : Vec F S1x1024 .f32) {κ : Kind} {sp : Space} (v : View sig κ sp S1024x2048 .bf16) (p : Vec F S1024x2048 .bf16) :
    View.canon (Val := Elt F) (s := S1x512x2048) (e := .bf16) [⟨rGate1, k0_pay4 (k0_pay7 a) (k0_pay8 a b) (v.readCov [⟨rCopy, p⟩] rCopy1.toLoadRect)⟩, ⟨rGate0, k0_pay3 (k0_pay7 a) (k0_pay8 a b) (v.readCov [⟨rCopy, p⟩] rCopy0.toLoadRect)⟩]
      = View.canon [⟨rGate1, k0_pay4 (k0_pay7 a) (k0_pay8 a b) (View.ld (View.canon [⟨rCopy, p⟩]) rCopy1)⟩, ⟨rGate0, k0_pay3 (k0_pay7 a) (k0_pay8 a b) (View.ld (View.canon [⟨rCopy, p⟩]) rCopy0)⟩] :=
  congrArg₂ (fun u w => View.canon (Val := Elt F) (s := S1x512x2048) (e := .bf16) [⟨rGate1, k0_pay4 (k0_pay7 a) (k0_pay8 a b) u⟩, ⟨rGate0, k0_pay3 (k0_pay7 a) (k0_pay8 a b) w⟩])
    (View.readCov_eq_canon_ld v _ rCopy1 (coverCopy p)) (View.readCov_eq_canon_ld v _ rCopy0 (coverCopy p))

/-! ## The body, run -/

/-- The test the body makes of its grid point before it writes the copy. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

set_option maxHeartbeats 4000000 in
/-- The body on whole buffers: the inputs' at `xW`, the results' at anything, its own at `s0`, which is the copy `s`
    already unless this is the first point. It leaves the inputs', each result's at its block, and its own at `s`. -/
theorem sound_kernel (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S1024x4608 .f32) (harg4 : arg4.IsWhole) (arg5 : Memref sig .tc .vmem S1024x2304 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x2048 .bf16) (harg14 : arg14.IsWhole) (arg15 : Memref sig .tc .vmem S1x512x512 .f32) (harg15 : arg15.IsWhole) (arg16 : Memref sig .tc .vmem S1024x2048 .bf16) (harg16 : arg16.IsWhole)
    (x0 : Vec F S1x512x1024 .f32) (x1 : Vec F S1x1024 .f32) (x2 : Vec F S1024x4608 .f32) (x3 : Vec F S1024x2304 .f32) (x4 : Vec F S128x512 .bf16) (x5 : Vec F S1x512 .f32) (s0 s : Vec F S1024x2048 .bf16) (hs : s = copyOf (View.ld x3 rGate)) (hs0 : ¬ isFirst i → s0 = s) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare s0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out6 x0 x1 x2) ∗ owns (c : Thread nD τ) arg9 fullShare (out7 x0 x1 x2) ∗ owns (c : Thread nD τ) arg10 fullShare (out8 x0 x1 x2) ∗ owns (c : Thread nD τ) arg11 fullShare (out9 x0 x1 x2) ∗ owns (c : Thread nD τ) arg12 fullShare (out10 x0 x1 x2) ∗ owns (c : Thread nD τ) arg13 fullShare (out11 x0 x1 x2) ∗ owns (c : Thread nD τ) arg14 fullShare (out12 x0 x1 s) ∗ owns (c : Thread nD τ) arg15 fullShare (out13 x0 x1 (View.ld x3 rLow) x4 x5) ∗ owns (c : Thread nD τ) arg16 fullShare s) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inproj_eq_skeleton]; unfold cc0_inproj_skel
  simp only [k0_part1_eq_skeleton, k0_part2_eq_skeleton, k0_part3_eq_skeleton, k0_part4_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs, %hfs, HS⟩, Hk⟩
  subst hf0 hf1 hf2 hf3 hf4 hf5
  by_cases hi : isFirst i
  · simp only [dif_pos hi]
    sl_exec
    sl_step
    iapply Hk
    subst hs
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      exact (View.read_writes_eq_canon _ _ _ (coverHalf _)).trans rfl
    isplitl [H7]
    · iexists _; isplitr
      swap; · iexact H7
      ipureintro
      exact (View.read_writes_eq_canon _ _ _ (coverHalf _)).trans rfl
    isplitl [H8]
    · iexists _; isplitr
      swap; · iexact H8
      ipureintro
      exact (View.read_writes_eq_canon _ _ _ (coverHalf _)).trans rfl
    isplitl [H9]
    · iexists _; isplitr
      swap; · iexact H9
      ipureintro
      exact (View.read_writes_eq_canon _ _ _ (coverRows _)).trans rfl
    isplitl [H10]
    · iexists _; isplitr
      swap; · iexact H10
      ipureintro
      exact (View.read_writes_eq_canon _ _ _ (coverRows _)).trans rfl
    isplitl [H11]
    · iexists _; isplitr
      swap; · iexact H11
      ipureintro
      exact (View.read_writes_eq_canon _ _ _ (coverRows _)).trans rfl
    isplitl [H12]
    · iexists _; isplitr
      swap; · iexact H12
      ipureintro
      exact (View.read_writes_eq_canon _ _ _ (coverGate _ _)).trans (by unfold sound_kernel.sl.v166 sound_kernel.sl.v174; exact readGate (View.ld (arg2.view.read (Elt F) f0) rRows) (View.ld (arg3.view.read (Elt F) f1) rNorm) _ (k0_pay5 (View.ld (arg5.view.read (Elt F) f3) rGate)))
    isplitl [H13]
    · iexists _; isplitr
      swap; · iexact H13
      ipureintro
      exact (View.read_writes_eq_canon _ _ _ (coverDec _ _ _ _)).trans rfl
    iexists _; isplitr
    swap; · iexact HS
    ipureintro
    exact (View.read_writes_eq_canon _ _ _ (coverCopy _)).trans rfl
  · simp only [dif_neg hi]
    sl_exec
    sl_step
    iapply Hk
    obtain rfl := hs0 hi
    subst hfs
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      exact (View.read_writes_eq_canon _ _ _ (coverHalf _)).trans rfl
    isplitl [H7]
    · iexists _; isplitr
      swap; · iexact H7
      ipureintro
      exact (View.read_writes_eq_canon _ _ _ (coverHalf _)).trans rfl
    isplitl [H8]
    · iexists _; isplitr
      swap; · iexact H8
      ipureintro
      exact (View.read_writes_eq_canon _ _ _ (coverHalf _)).trans rfl
    isplitl [H9]
    · iexists _; isplitr
      swap; · iexact H9
      ipureintro
      exact (View.read_writes_eq_canon _ _ _ (coverRows _)).trans rfl
    isplitl [H10]
    · iexists _; isplitr
      swap; · iexact H10
      ipureintro
      exact (View.read_writes_eq_canon _ _ _ (coverRows _)).trans rfl
    isplitl [H11]
    · iexists _; isplitr
      swap; · iexact H11
      ipureintro
      exact (View.read_writes_eq_canon _ _ _ (coverRows _)).trans rfl
    isplitl [H12]
    · iexists _; isplitr
      swap; · iexact H12
      ipureintro
      exact (View.read_writes_eq_canon _ _ _ (coverGate _ _)).trans rfl
    isplitl [H13]
    · iexists _; isplitr
      swap; · iexact H13
      ipureintro
      exact (View.read_writes_eq_canon _ _ _ (coverDec _ _ _ _)).trans rfl
    iexists fs; isplitr; · ipureintro; rfl
    iexact HS

end Cert.ProjIdeal.Body

end
-- ==== Proof.Proj.Run.lean ====
module

public import proofs.«01_k».proof.Proof.Proj.Body

@[expose] public section

/-
  The whole run of the input projection, for any values: what every staging buffer holds at every grid point, the
  body's obligation there, and the run from a launch.
-/

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block that reaches past its array -/

/-- The fourth operand's buffer when the body runs: the columns its array has, over `d`. -/
def X3 (c : Dev nD) (t : Fin cfg0.N) (d : Vec F S1024x2304 .f32) : Vec F S1024x2304 .f32 :=
  (cfg0.win 3).fill (cfg0.grid.coords t) d (iblk m c 3 t)
/-- Values for the columns no transfer fills, which nothing reads. -/
def blank : (cfg0.win 3).block.Idx → Elt F (cfg0.win 3).elt := fun _ => Classical.choice inferInstance

/-- A transfer fills 2064 columns at every point. -/
theorem xsize3 : ∀ t : Fin grid0.N, ∀ a, win0_3.xsize (grid0.coords t) a = (![1024, 2064] : Fin 2 → ℕ) a := by decide +kernel

theorem X3_eq (c : Dev nD) (t : Fin cfg0.N) (d d' : Vec F S1024x2304 .f32) (j : S1024x2304.Idx) (hj : (j 1).val < 2064) :
    X3 m c t d j = X3 m c t d' j := by
  have hm : (cfg0.win 3).moved (cfg0.grid.coords t) j = true := ((cfg0.win 3).moved_iff _ j).mpr fun a => by
    rw [show (cfg0.win 3).xsize (cfg0.grid.coords t) a = _ from xsize3 t a]
    match a with
    | ⟨0, _⟩ => exact (j 0).isLt
    | ⟨1, _⟩ => exact hj
  unfold X3 Pipeline.Window.fill; rw [dif_pos hm, dif_pos hm]

theorem low_eq (c : Dev nD) (t : Fin cfg0.N) (d d' : Vec F S1024x2304 .f32) :
    View.ld (X3 m c t d) rLow = View.ld (X3 m c t d') rLow :=
  funext fun x => X3_eq m c t d d' _ (by
    have h := (x 1).isLt
    have h2 : ((rLow.idx x) 1).val = 0 + 1 * (x 1).val := rfl
    have h3 : S1024x128.size 1 = 128 := rfl
    have h4 : (x 1).val < S1024x128.size 1 := h
    rw [h2]; omega)

theorem gate_eq (c : Dev nD) (t : Fin cfg0.N) (d d' : Vec F S1024x2304 .f32) :
    View.ld (X3 m c t d) rGate = View.ld (X3 m c t d') rGate :=
  funext fun x => X3_eq m c t d d' _ (by
    have h := (x 1).isLt
    have h2 : ((rGate.idx x) 1).val = 16 + 1 * (x 1).val := rfl
    have h3 : S1024x2048.size 1 = 2048 := rfl
    have h4 : (x 1).val < S1024x2048.size 1 := h
    rw [h2]; omega)

/-- The first grid point. -/
def pt0 : Fin cfg0.N := ⟨0, by have h : cfg0.N = 64 := N_0; omega⟩

/-- The decay gate's columns of the weight as the body reads them, and the copy it keeps. -/
def wLow (c : Dev nD) : Vec F S1024x128 .f32 := View.ld (X3 m c pt0 blank) rLow
def kept (c : Dev nD) : Vec F S1024x2048 .bf16 := copyOf (View.ld (X3 m c pt0 blank) rGate)

/-! ## The proof data -/

/-- Before the first point the body's own buffer holds anything; from then on, the copy. -/
def inv0 (c : Dev nD) (n : ℕ) : sProp 𝕄 :=
  if n = 0 then Pipeline.ΦA spec0 c
  else iprop(owns (c : Thread nD τ) (Memref.whole cc0_scratch0) fullShare (kept m c) ∗ ∃ r, prngReg c r)

/-- Each array as the run finds it; each input's buffer left at its block and each result's at the body's block; the
    body's own buffer at the copy after the first point; shares by how many windows read an array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X3 m c t blank
    | ⟨4, _⟩ => iblk m c 4 t
    | ⟨5, _⟩ => iblk m c 5 t
    | ⟨6, _⟩ => out6 (iblk m c 0 t) (iblk m c 1 t) (X0_2 m c t)
    | ⟨7, _⟩ => out7 (iblk m c 0 t) (iblk m c 1 t) (X0_2 m c t)
    | ⟨8, _⟩ => out8 (iblk m c 0 t) (iblk m c 1 t) (X0_2 m c t)
    | ⟨9, _⟩ => out9 (iblk m c 0 t) (iblk m c 1 t) (X0_2 m c t)
    | ⟨10, _⟩ => out10 (iblk m c 0 t) (iblk m c 1 t) (X0_2 m c t)
    | ⟨11, _⟩ => out11 (iblk m c 0 t) (iblk m c 1 t) (X0_2 m c t)
    | ⟨12, _⟩ => out12 (iblk m c 0 t) (iblk m c 1 t) (kept m c)
    | ⟨13, _⟩ => out13 (iblk m c 0 t) (iblk m c 1 t) (wLow m c) (iblk m c 4 t) (iblk m c 5 t)
  Φ t := inv0 m c t.val
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = X3 m c t blank := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (X0_2 m c t) := by dsimp only [dats]
theorem after7 (c : Dev nD) (t : Fin cfg0.N) : (dats m 0 c).after 7 t = out7 (iblk m c 0 t) (iblk m c 1 t) (X0_2 m c t) := by dsimp only [dats]
theorem after8 (c : Dev nD) (t : Fin cfg0.N) : (dats m 0 c).after 8 t = out8 (iblk m c 0 t) (iblk m c 1 t) (X0_2 m c t) := by dsimp only [dats]
theorem after9 (c : Dev nD) (t : Fin cfg0.N) : (dats m 0 c).after 9 t = out9 (iblk m c 0 t) (iblk m c 1 t) (X0_2 m c t) := by dsimp only [dats]
theorem after10 (c : Dev nD) (t : Fin cfg0.N) : (dats m 0 c).after 10 t = out10 (iblk m c 0 t) (iblk m c 1 t) (X0_2 m c t) := by dsimp only [dats]
theorem after11 (c : Dev nD) (t : Fin cfg0.N) : (dats m 0 c).after 11 t = out11 (iblk m c 0 t) (iblk m c 1 t) (X0_2 m c t) := by dsimp only [dats]
theorem after12 (c : Dev nD) (t : Fin cfg0.N) : (dats m 0 c).after 12 t = out12 (iblk m c 0 t) (iblk m c 1 t) (kept m c) := by dsimp only [dats]
theorem after13 (c : Dev nD) (t : Fin cfg0.N) : (dats m 0 c).after 13 t = out13 (iblk m c 0 t) (iblk m c 1 t) (wLow m c) (iblk m c 4 t) (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The fourth operand's block is the same at every point. -/
theorem X3_const (c : Dev nD) (t t' : Fin cfg0.N) (d : Vec F S1024x2304 .f32) : X3 m c t d = X3 m c t' d :=
  (dats m 0 c).fetched_congr 3 (t := t) (t' := t') rfl rfl d

theorem flush3 (t : Fin cfg0.N) : (cfg0.win 3).flush t = false := rfl

/-- So its buffer holds the block at every point, over some values of the columns no transfer fills. -/
theorem before3 (c : Dev nD) (t : Fin cfg0.N) (d) : (dats m 0 c).before 3 t d = X3 m c t d := by
  unfold Dat.before
  by_cases hf : (cfg0.win 3).fetch t = true
  · rw [if_pos hf]; rfl
  · have h0 : ¬ t.val = 0 := fun h => hf ((fetch0_3 t).mpr (by rw [h]))
    rw [if_neg hf, if_neg h0]
    dsimp only
    rw [if_neg (by rw [flush3]; decide)]
    show (cfg0.win 3).fill _ d ((cfg0.win 3).cut _ ((dats m 0 c).after 3 _)) = _
    rw [after3]
    show (cfg0.win 3).fill _ d ((cfg0.win 3).cut _ ((cfg0.win 3).fill _ blank (iblk m c 3 _))) = _
    rw [Pipeline.Window.cut_fill]
    exact X3_const m c _ _ d

theorem first : ∀ t : Fin grid0.N, t.val = 0 → isFirst (grid0.coords t) := by decide +kernel

/-! ## The body's obligation -/

theorem open0 (c : Dev nD) (n : ℕ) (hn : ∀ t : Fin grid0.N, t.val = n → n = 0 → isFirst (grid0.coords t)) :
    inv0 m c n ⊢ (iprop(∃ s0, owns (c : Thread nD τ) (Memref.whole cc0_scratch0) fullShare s0 ∗ ⌜n ≠ 0 → s0 = kept m c⌝ ∗ ∃ r, prngReg c r) : sProp 𝕄) := by
  unfold inv0
  by_cases h : n = 0
  · rw [if_pos h]; unfold Pipeline.ΦA; rw [scopedRest0_eq]
    iintro ⟨⟨%f, H⟩, HP⟩
    iexists f
    isplitl [H]
    · rw [owns_whole]; iexact H
    isplitr
    · ipureintro; exact fun h' => absurd h h'
    iexact HP
  · rw [if_neg h]
    iintro ⟨H, HP⟩
    iexists (kept m c)
    isplitl [H]
    · iexact H
    isplitr
    · ipureintro; exact fun _ => rfl
    iexact HP

theorem close0 (c : Dev nD) (n : ℕ) (h : n ≠ 0) :
    (iprop(owns (c : Thread nD τ) (Memref.whole cc0_scratch0) fullShare (kept m c) ∗ ∃ r, prngReg c r) : sProp 𝕄) ⊢ inv0 m c n := by
  unfold inv0; rw [if_neg h]

theorem forget0 (c : Dev nD) (n : ℕ) (h : n ≠ 0) : inv0 m c n ⊢ (Pipeline.ΦA spec0 c : sProp 𝕄) := by
  unfold inv0; rw [if_neg h]; unfold Pipeline.ΦA; rw [scopedRest0_eq, owns_whole]
  iintro ⟨H, HP⟩
  isplitl [H]
  · iexists (kept m c); iexact H
  iexact HP

/-- What the body is run with at point `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [after0, after1, after2, after3, after4, after5, after6, after7, after8, after9, after10, after11, after12, after13]
  rw [show (dats m 0 c).Φ t.castSucc = inv0 m c t.val from rfl, show (dats m 0 c).Φ t.succ = inv0 m c (t.val + 1) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HΦ2 := (open0 m c t.val (fun t _ h => first t (by omega))) $$ HΦ
  icases HΦ2 with ⟨%s0, HS, %hs0, HP⟩
  have hk : kept m c = copyOf (View.ld (X3 m c t d3) rGate) := by
    unfold kept; rw [gate_eq m c t d3 blank, X3_const m c t pt0]
  have hl : wLow m c = View.ld (X3 m c t d3) rLow := by
    unfold wLow; rw [low_eq m c t d3 blank, X3_const m c t pt0]
  iapply (sound_kernel c Set.univ (grid0.coords t) _ _ _ _ _ _ _ _ _ _ _ _ _ _ _ _ _ _ _ _ _ _ _ _ _ _ _ _ _ _ (iblk m c 0 t) (iblk m c 1 t) (X0_2 m c t) (X3 m c t d3) (iblk m c 4 t) (iblk m c 5 t) s0 (kept m c) hk (fun h => hs0 fun h0 => h (first t h0)) _)
  rw [← hl]
  isplitl [H0]
  · iexact H0
  isplitl [H1]
  · iexact H1
  isplitl [H2]
  · iexact H2
  isplitl [H3]
  · iexact H3
  isplitl [H4]
  · iexact H4
  isplitl [H5]
  · iexact H5
  isplitl [H6]
  · iexists _; iexact H6
  isplitl [H7]
  · iexists _; iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [HS]
  · iexact HS
  iintro ⟨H0, H1, H2, H3, H4, H5, H6, H7, H8, H9, H10, H11, H12, H13, HS⟩
  isplitl [HS HP]
  · iapply (close0 m c (t.val + 1) (Nat.succ_ne_zero _))
    isplitl [HS]
    · iexact HS
    iexact HP
  isplitl [Ho]
  · iexact Ho
  isplitl [H0]
  · iexact H0
  isplitl [H1]
  · iexact H1
  isplitl [H2]
  · iexists (X0_2 m c t); rw [(cfg0.win 2).fill_congr_cut _ rfl]; iexact H2
  isplitl [H3]
  · iexists (X3 m c t d3); rw [(cfg0.win 3).fill_congr_cut _ (by unfold X3; rw [Pipeline.Window.cut_fill, Pipeline.Window.cut_fill])]; iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

theorem N_ne : (Fin.last cfg0.N).val ≠ 0 := by have h : cfg0.N = 64 := N_0; rw [Fin.val_last]; omega

set_option backward.isDefEq.respectTransparency.types false in
set_option maxHeartbeats 800000 in
/-- Every run from a launch ends, with every array at what the proof data say, every other buffer as the operations
    around the kernel leave it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := body_obligation m) (hq := fun _ _ _ => rfl) (howed := fun _ _ => rfl) (V₀ := V0 m) (opss := [hostOps1])
    (hsub := sfx_sub) (hfresh := sfx_fresh) (hkeep := sfx_keeps) (hmain := hmain m Variants.none) (hA := A_eq m)
    (hin := fun c => by show _ ⊢ inv0 m c 0; unfold inv0; rw [if_pos rfl]) (hout := fun c => forget0 m c _ N_ne)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ProjIdeal.Body
-- ==== Proof.Proj.Same.lean ====
module

public import proofs.«01_k».proof.Defs
public import proofs.«01_k».proof.Proof.Gen.Proj.Frame
public import proofs.«01_k».proof.Proof.Proj.Run

@[expose] public section

/-
  The input projection's program and the one read on the extended reals have the same text, so the run proved for any
  values gives the first one's frame.
-/

set_option maxRecDepth 20000

noncomputable section

namespace Cert.Proj.Claims

open Idealize.ShloMosaic Idealize.ShloMosaic.TcCoe Idealize.SL.Sem
open Cert.Proj.Gen Cert.ProjIdeal.Gen

set_option maxHeartbeats 1000000 in
/-- The two programs' bodies are one. -/
theorem defs₀_same : Cert.Proj.defs₀ (F := Bits) = Cert.ProjIdeal.defs₀ (F := Bits) := by
  unfold Cert.Proj.defs₀ Cert.ProjIdeal.defs₀
  refine congrArg Defs.onTc (funext fun l => funext fun a => ?_)
  match l, a with
  | ⟨0, _⟩, (t, s) => exact rfl
  | ⟨n + 1, h⟩, _ => exact absurd h (Nat.not_lt.2 (Nat.le_add_left _ _))

theorem defs_same : Cert.Proj.defs (F := Bits) = Cert.ProjIdeal.defs (F := Bits) :=
  congrArg (Pipeline.defs Cert.ProjIdeal.pcfgs) defs₀_same

set_option maxHeartbeats 1000000 in
theorem frame : quiescent_Proj (hProj := Cert.Proj.Gen.facts) := by
  intro m ρ _
  rw [defs_same]
  exact Cert.ProjIdeal.Body.frame (F := Bits) m ρ

end Cert.Proj.Claims
-- ==== Proof.Proj.Decay.lean ====
module
public import proofs.«01_k».proof.Proof.Merge.Row
@[expose] public section

/-
  One row of the layer's input projection on the extended reals, and the facts about the decay gate the kernel's order
  of operations needs: the normaliser may be multiplied in last; the logarithm of the gate is not +∞, so splitting it
  in a part, the rest and the rest of the rest changes no sum; and a running sum over a chunk of 128 rows, which the
  kernel computes as a product with a lower triangular matrix of zeros and ones, is a sum over a window.
-/

noncomputable section

namespace Cert.Layer

open Idealize.ShloMosaic

/-- A normalised row times one column of the weight. -/
def projRow (x g w : Fin 1024 → EReal) : EReal := ∑ k, x k * invRms x * g k * w k

/-- The product with the normaliser multiplied in last. -/
theorem proj_late (x g w : Fin 1024 → EReal) : (∑ k, x k * g k * w k) * invRms x = projRow x g w := by
  obtain ⟨h0, ht⟩ := invRms_bounds x
  rw [sum_mul_of_bounds _ h0 ht]
  exact Finset.sum_congr rfl fun l _ => by ac_rfl

/-- The logarithm of the decay gate: the logarithm of the logistic function, over 16. -/
def logGate (z : EReal) : EReal :=
  Ideal.div (-(max (-z) 0 + Ideal.log1p (Ideal.exp (-(max z (-z)))))) (Ideal.ofBits .f32 0x41800000#32)

theorem sixteen : Ideal.ofBits .f32 0x41800000#32 = ((16 : ℝ) : EReal) := by
  simp [Ideal.ofBits, Ideal.ieee]
  rw [← EReal.coe_mul]
  norm_num

theorem sixteenth : Ideal.ofBits .f32 0x3D800000#32 = ((16 : ℝ) : EReal)⁻¹ := by
  rw [← EReal.coe_inv]
  simp [Ideal.ofBits, Ideal.ieee]
  rw [← EReal.coe_mul]
  exact congrArg _ (by norm_num)

/-- The kernel's form of it: a product with the reciprocal, and differences from zero for negations. -/
theorem logGate_product (z : EReal) :
    (0 - (max (0 - z) 0 + Ideal.log (1 + Ideal.exp (0 - max z (-z))))) * Ideal.ofBits .f32 0x3D800000#32 = logGate z := by
  unfold logGate Ideal.div Ideal.log1p
  rw [sixteen, sixteenth, if_neg (EReal.coe_ne_zero.mpr (by norm_num))]
  simp only [zero_sub]

theorem exp_nonneg (x : EReal) : 0 ≤ Ideal.exp x := by
  induction x with
  | bot => simp
  | top => simp
  | coe r => rw [Ideal.exp_coe]; exact_mod_cast (Real.exp_pos r).le

theorem log1p_nonneg {x : EReal} (h : 0 ≤ x) : 0 ≤ Ideal.log1p x := by
  unfold Ideal.log1p
  induction x with
  | bot => simp at h
  | top => rw [show (1 : EReal) + ⊤ = ⊤ from rfl]; simp
  | coe r =>
    have hr : 0 ≤ r := by exact_mod_cast h
    rw [show (1 : EReal) + (r : EReal) = ((1 + r : ℝ) : EReal) from rfl, Ideal.log_coe, if_neg (by linarith)]
    exact_mod_cast Real.log_nonneg (by linarith)

/-- The logarithm of the gate is not +∞. -/
theorem logGate_ne_top (z : EReal) : logGate z ≠ ⊤ := by
  have h : (0 : EReal) ≤ max (-z) 0 + Ideal.log1p (Ideal.exp (-(max z (-z)))) :=
    add_nonneg (le_max_right _ _) (log1p_nonneg (exp_nonneg _))
  have h2 : logGate z ≤ 0 := by
    unfold logGate Ideal.div
    rw [sixteen, if_neg (EReal.coe_ne_zero.mpr (by norm_num))]
    refine EReal.mul_nonpos_iff.mpr (.inr ⟨?_, EReal.inv_nonneg_of_nonneg (by exact_mod_cast (by norm_num : (0:ℝ) ≤ 16))⟩)
    rw [EReal.neg_le, neg_zero]; exact h
  exact ne_of_lt (lt_of_le_of_lt h2 EReal.zero_lt_top)

/-- A number below +∞ is the sum of itself, what is left of it, and what is left of that. -/
theorem parts {a : EReal} (ha : a ≠ ⊤) : a + (a - a) + (a - a - (a - a)) = a := by
  induction a with
  | bot => rfl
  | top => exact absurd rfl ha
  | coe r => norm_cast; simp

/-- A row of the triangular product: three blocks of 128 rows of zeros and ones against the three parts. -/
theorem triangle (M : Fin 384 → EReal) (C : Fin 384 → EReal) (a : Fin 128 → EReal) (r : ℕ)
    (ha : ∀ k, a k ≠ ⊤)
    (hM : ∀ k, M k = if k.val % 128 ≤ r then 1 else 0)
    (h0 : ∀ k : Fin 128, C ⟨k.val, by omega⟩ = a k)
    (h1 : ∀ k : Fin 128, C ⟨128 + k.val, by omega⟩ = a k - a k)
    (h2 : ∀ k : Fin 128, C ⟨256 + k.val, by omega⟩ = a k - a k - (a k - a k)) :
    ∑ k, M k * C k = ∑ k : Fin 128, if k.val ≤ r then a k else 0 := by
  have e1 := Fin.sum_univ_add (a := 256) (b := 128) fun k => M k * C k
  have e2 := Fin.sum_univ_add (a := 128) (b := 128) fun k => M (Fin.castAdd 128 k) * C (Fin.castAdd 128 k)
  refine e1.trans ((congrArg (· + _) e2).trans ?_)
  rw [← Finset.sum_add_distrib, ← Finset.sum_add_distrib]
  refine Finset.sum_congr rfl fun k _ => ?_
  have hk := k.isLt
  have q0 : C (Fin.castAdd 128 (Fin.castAdd 128 k)) = a k := h0 k
  have q1 : C (Fin.castAdd 128 (Fin.natAdd 128 k)) = a k - a k := h1 k
  have q2 : C (Fin.natAdd 256 k) = a k - a k - (a k - a k) := h2 k
  have m0 : M (Fin.castAdd 128 (Fin.castAdd 128 k)) = if k.val ≤ r then 1 else 0 := by
    rw [hM]; exact if_congr (by simp [Nat.mod_eq_of_lt hk]) rfl rfl
  have m1 : M (Fin.castAdd 128 (Fin.natAdd 128 k)) = if k.val ≤ r then 1 else 0 := by
    rw [hM]; exact if_congr (by simp [Nat.mod_eq_of_lt hk]) rfl rfl
  have m2 : M (Fin.natAdd 256 k) = if k.val ≤ r then 1 else 0 := by
    rw [hM]; exact if_congr (by rw [Fin.val_natAdd]; omega) rfl rfl
  rw [q0, q1, q2, m0, m1, m2]
  by_cases h : k.val ≤ r
  · simp only [if_pos h, one_mul]; exact parts (ha k)
  · simp only [if_neg h, zero_mul, add_zero]

/-- The host's windowed sum from zero, as a sum over the positions of the window. -/
theorem window_positions {s t : Shape} (window strides lo hi : Fin s.rank → Nat) (x : s.Idx → EReal)
    (h : s.ReduceWindows window strides lo hi t) (j : t.Idx) :
    Ideal.hostReduceWindowAdd window strides lo hi h x 0 j
      = ∑ w : (⟨s.rank, window⟩ : Shape).Idx,
          (if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else 0) := by
  unfold Ideal.hostReduceWindowAdd Host.reduceWindow
  rw [sum_idx_eq_foldl]
  dsimp only
  congr 1
  funext a i
  refine congrArg (a + ·) ?_
  split <;> rfl

/-- A windowed sum of 128 rows, padded in front, is the running sum over the rows of a chunk. -/
theorem window_sum {P Q J : ℕ} (x : (⟨4, ![P, Q, 128, J]⟩ : Shape).Idx → EReal)
    (h : (⟨4, ![P, Q, 128, J]⟩ : Shape).ReduceWindows ![1, 1, 128, 1] ![1, 1, 1, 1] ![0, 0, 127, 0] ![0, 0, 0, 0] ⟨4, ![P, Q, 128, J]⟩)
    (b : Fin P) (q : Fin Q) (r : Fin 128) (j : Fin J) :
    Ideal.hostReduceWindowAdd (s := ⟨4, ![P, Q, 128, J]⟩) ![1, 1, 128, 1] ![1, 1, 1, 1] ![0, 0, 127, 0] ![0, 0, 0, 0] h x 0 (ix4 b q r j)
      = ∑ k : Fin 128, if k.val ≤ r.val then x (ix4 b q k j) else 0 := by
  rw [window_positions]
  refine (sum_idx4 _).trans ?_
  simp only [Fin.sum_univ_one]
  rw [← Finset.sum_filter]
  have hr := r.isLt
  refine (Finset.sum_congr rfl fun p _ => (?_ : _ = if 127 ≤ r.val + p.val then
    x (ix4 b q ⟨(r.val + p.val - 127) % 128, Nat.mod_lt _ (by omega)⟩ j) else 0)).trans ?_
  · have hp := p.isLt
    by_cases hc : 127 ≤ r.val + p.val
    · rw [if_pos hc, dif_pos]
      · refine congrArg x (funext fun a => Fin.ext ?_)
        match a with
        | ⟨0, _⟩ => show b.val * 1 + 0 - 0 = b.val; omega
        | ⟨1, _⟩ => show q.val * 1 + 0 - 0 = q.val; omega
        | ⟨2, _⟩ => show r.val * 1 + p.val - 127 = (r.val + p.val - 127) % 128; omega
        | ⟨3, _⟩ => show j.val * 1 + 0 - 0 = j.val; omega
      · intro a
        match a with
        | ⟨0, _⟩ => show 0 ≤ b.val * 1 + 0 ∧ b.val * 1 + 0 - 0 < P; omega
        | ⟨1, _⟩ => show 0 ≤ q.val * 1 + 0 ∧ q.val * 1 + 0 - 0 < Q; omega
        | ⟨2, _⟩ => show 127 ≤ r.val * 1 + p.val ∧ r.val * 1 + p.val - 127 < 128; omega
        | ⟨3, _⟩ => show 0 ≤ j.val * 1 + 0 ∧ j.val * 1 + 0 - 0 < J; omega
    · rw [if_neg hc, dif_neg]
      intro hin
      have h2 : 127 ≤ r.val * 1 + p.val := (hin 2).1
      omega
  · rw [← Finset.sum_filter]
    refine Finset.sum_bij' (fun p _ => (⟨(r.val + p.val - 127) % 128, Nat.mod_lt _ (by omega)⟩ : Fin 128))
      (fun k _ => (⟨(k.val + 127 - r.val) % 128, Nat.mod_lt _ (by omega)⟩ : Fin 128)) ?_ ?_ ?_ ?_ ?_
    · intro p hp
      have := (Finset.mem_filter.mp hp).2
      refine Finset.mem_filter.mpr ⟨Finset.mem_univ _, ?_⟩
      show (r.val + p.val - 127) % 128 ≤ r.val; omega
    · intro k hk
      have := (Finset.mem_filter.mp hk).2
      refine Finset.mem_filter.mpr ⟨Finset.mem_univ _, ?_⟩
      show 127 ≤ r.val + (k.val + 127 - r.val) % 128; omega
    · intro p hp
      have := (Finset.mem_filter.mp hp).2
      refine Fin.ext ?_
      show ((r.val + p.val - 127) % 128 + 127 - r.val) % 128 = p.val; omega
    · intro k hk
      have := (Finset.mem_filter.mp hk).2
      refine Fin.ext ?_
      show (r.val + (k.val + 127 - r.val) % 128 - 127) % 128 = k.val; omega
    · intro p hp
      rfl

end Cert.Layer
-- ==== Proof.Proj.Ref.lean ====
module
public import proofs.«01_k».proof.Proof.Gen.ProjRefIdeal.Run
public import proofs.«01_k».proof.Proof.Proj.Decay
@[expose] public section
set_option maxRecDepth 16384

/-
  The reference's eight results of the input projection, each read at an element: a normalised row times a column of
  the weight, or the running sum of the logarithm of the decay gate.
-/

noncomputable section

open Idealize.ShloMosaic Idealize.ShloMosaic.TcCoe Idealize.SL.Sem

namespace Cert.ProjRefIdeal.Rows

open Cert.ProjRefIdeal Cert.ProjRefIdeal.Gen Cert.Layer

variable (x : FVec Ideal S8x4096x1024 .f32) (g : FVec Ideal S1024 .f32) (w : FVec Ideal S1024x6672 .f32)
  (u : FVec Ideal S16x512 .f32) (b : FVec Ideal S512 .f32)

/-- The normalised array times the whole weight, as the reference's operations. -/
def prodArr : FVec Ideal S8x4096x6672 .f32 :=
  Host.dotGeneral dot_S8x4096x1024_S1024x6672_S8x4096x6672_2_0_01_1_n_n none
    (mulf (mulf x (broadcastInDim S8x4096x1024 ![0, 1, 2] bcast_S8x4096x1_S8x4096x1024_0_1_2
        (Host.rsqrt (addf
          (Host.divf
            (broadcastInDim S8x4096x1 ![0, 1] bcast_S8x4096_S8x4096x1_0_1
              (Host.reduceAdd (mulf x x) (constant S_ .f32 0x00000000#32) reducesTo_S8x4096x1024_S8x4096_d2 h_S_))
            (broadcastInDim S8x4096x1 ![] bcast_S_S8x4096x1 (constant S_ .f32 0x44800000#32)))
          (broadcastInDim S8x4096x1 ![] bcast_S_S8x4096x1 (constant S_ .f32 0x358637BD#32))))))
      (broadcastInDim S8x4096x1024 ![0, 1, 2] bcast_S1x1x1024_S8x4096x1024_0_1_2
        (broadcastInDim S1x1x1024 ![2] bcast_S1024_S1x1x1024_2 g))) w

theorem prod_at (i : Fin 8) (t : Fin 4096) (n : Fin 6672) :
    prodArr x g w (ix3 i t n) = projRow (fun k => x (ix3 i t k)) (fun k => g (ix1 k)) (fun k => w (ix2 k n)) := by
  unfold projRow invRms
  pointwise [prodArr]

/-- The queries, and the six results that are columns of the product. -/
def queryArr : FVec Ideal S8x4096x512 .f32 :=
  mulf (extractStridedSlice S8x4096x512 ![0, 0, 0] (prodArr x g w) slices_S8x4096x6672_S8x4096x512_0_0_0)
    (broadcastInDim S8x4096x512 ![] bcast_S_S8x4096x512 (constant S_ .f32 0x3E000000#32))
def keyArr : FVec Ideal S8x4096x512 .f32 :=
  extractStridedSlice S8x4096x512 ![0, 0, 512] (prodArr x g w) slices_S8x4096x6672_S8x4096x512_0_0_512
def valueArr : FVec Ideal S8x4096x512 .f32 :=
  extractStridedSlice S8x4096x512 ![0, 0, 1024] (prodArr x g w) slices_S8x4096x6672_S8x4096x512_0_0_1024
def lateArr1 : FVec Ideal S8x4096x1024 .f32 :=
  extractStridedSlice S8x4096x1024 ![0, 0, 1536] (prodArr x g w) slices_S8x4096x6672_S8x4096x1024_0_0_1536
def lateArr2 : FVec Ideal S8x4096x1024 .f32 :=
  extractStridedSlice S8x4096x1024 ![0, 0, 2560] (prodArr x g w) slices_S8x4096x6672_S8x4096x1024_0_0_2560
def lateArr3 : FVec Ideal S8x4096x1024 .f32 :=
  extractStridedSlice S8x4096x1024 ![0, 0, 3584] (prodArr x g w) slices_S8x4096x6672_S8x4096x1024_0_0_3584
def gatesArr : FVec Ideal S8x4096x2048 .f32 :=
  extractStridedSlice S8x4096x2048 ![0, 0, 4624] (prodArr x g w) slices_S8x4096x6672_S8x4096x2048_0_0_4624

section columns

variable (i : Fin 8) (t : Fin 4096)

/-- A row of the product at a column of the weight. -/
abbrev at_ (n : Fin 6672) : EReal :=
  projRow (fun k => x (ix3 i t k)) (fun k => g (ix1 k)) (fun k => w (ix2 k n))

theorem query_at (j : Fin 512) :
    queryArr x g w (ix3 i t j) = at_ x g w i t ⟨j.val, by omega⟩ * Ideal.ofBits .f32 0x3E000000#32 := by
  rw [at_, ← prod_at]
  pointwise [queryArr]
theorem key_at (j : Fin 512) : keyArr x g w (ix3 i t j) = at_ x g w i t ⟨512 + j.val, by omega⟩ := by
  rw [at_, ← prod_at]
  pointwise [keyArr]
theorem value_at (j : Fin 512) : valueArr x g w (ix3 i t j) = at_ x g w i t ⟨1024 + j.val, by omega⟩ := by
  rw [at_, ← prod_at]
  pointwise [valueArr]
theorem late1_at (j : Fin 1024) : lateArr1 x g w (ix3 i t j) = at_ x g w i t ⟨1536 + j.val, by omega⟩ := by
  rw [at_, ← prod_at]
  pointwise [lateArr1]
theorem late2_at (j : Fin 1024) : lateArr2 x g w (ix3 i t j) = at_ x g w i t ⟨2560 + j.val, by omega⟩ := by
  rw [at_, ← prod_at]
  pointwise [lateArr2]
theorem late3_at (j : Fin 1024) : lateArr3 x g w (ix3 i t j) = at_ x g w i t ⟨3584 + j.val, by omega⟩ := by
  rw [at_, ← prod_at]
  pointwise [lateArr3]
theorem gates_at (j : Fin 2048) : gatesArr x g w (ix3 i t j) = at_ x g w i t ⟨4624 + j.val, by omega⟩ := by
  rw [at_, ← prod_at]
  pointwise [gatesArr]

end columns

/-- The decay gate before the logistic function. -/
def gateArr : FVec Ideal S8x4096x512 .f32 :=
  addf (Host.dotGeneral dot_S8x4096x16_S16x512_S8x4096x512_2_0_01_1_n_n none
      (extractStridedSlice S8x4096x16 ![0, 0, 4608] (prodArr x g w) slices_S8x4096x6672_S8x4096x16_0_0_4608) u)
    (broadcastInDim S8x4096x512 ![0, 1, 2] bcast_S1x1x512_S8x4096x512_0_1_2
      (broadcastInDim S1x1x512 ![2] bcast_S512_S1x1x512_2 b))

/-- An array of zeros. -/
abbrev zeros : FVec Ideal S8x4096x512 .f32 := broadcastInDim S8x4096x512 ![] bcast_S_S8x4096x512 (constant S_ .f32 0x00000000#32)

/-- The logarithm of the gate over 16. -/
def logArr (a : FVec Ideal S8x4096x512 .f32) : FVec Ideal S8x4096x512 .f32 :=
  Host.divf (Host.negf (select (cmpf .une (subf (Host.negf a) zeros) (subf (Host.negf a) zeros)) (addf (Host.negf a) zeros)
    (addf (maximumf (Host.negf a) zeros) (Host.log1p (Host.exp (Host.negf (Host.absf (subf (Host.negf a) zeros))))))))
    (broadcastInDim S8x4096x512 ![] bcast_S_S8x4096x512 (constant S_ .f32 0x41800000#32))

/-- The running sum over the rows of each chunk of 128. -/
def runArr (a : FVec Ideal S8x4096x512 .f32) : FVec Ideal S8x4096x512 .f32 :=
  shapeCast _ (Host.reduceWindowAdd ![1, 1, 128, 1] ![1, 1, 1, 1] ![0, 0, 127, 0] ![0, 0, 0, 0]
    (shapeCast _ a shapeCasts_S8x4096x512_S8x32x128x512) (broadcastInDim S_ ![] bcast_S_S_ (constant S_ .f32 0x00000000#32))
    reduceWindows_S8x32x128x512_S8x32x128x512_w1s1p0_0_w1s1p0_0_w128s1p127_0_w1s1p0_0 h_S_) shapeCasts_S8x32x128x512_S8x4096x512

theorem gate_at (i : Fin 8) (t : Fin 4096) (j : Fin 512) :
    gateArr x g w u b (ix3 i t j) = (∑ l : Fin 16, at_ x g w i t ⟨4608 + l.val, by omega⟩ * u (ix2 l j)) + b (ix1 j) := by
  simp only [at_, ← prod_at]
  pointwise [gateArr]

theorem log_at (a : FVec Ideal S8x4096x512 .f32) (i : Fin 8) (t : Fin 4096) (j : Fin 512) :
    logArr a (ix3 i t j) = logGate (a (ix3 i t j)) := by
  unfold logGate
  pointwise [logArr]
  rw [if_neg (fun h => h rfl),
    show (FloatOps.absf (-a (ix3 i t j) : Ideal .f32) : EReal) = max (-a (ix3 i t j)) (- -a (ix3 i t j)) from rfl, neg_neg,
    max_comm (-a (ix3 i t j)) (a (ix3 i t j))]

theorem run_at (a : FVec Ideal S8x4096x512 .f32) (i : Fin 8) (t : Fin 4096) (j : Fin 512) :
    runArr a (ix3 i t j) = ∑ k : Fin 128, if k.val ≤ t.val % 128 then a (ix3 i ⟨t.val / 128 * 128 + k.val, by omega⟩ j) else 0 := by
  unfold runArr
  have hs : ∀ (q : Fin 32) (r : Fin 128), (shapeCast S8x32x128x512 a shapeCasts_S8x4096x512_S8x32x128x512) (ix4 i q r j)
      = a (ix3 i ⟨q.val * 128 + r.val, by omega⟩ j) := fun q r => by
    pointwise
  pointwise
  rw [show Host.reduceWindowAdd ![1, 1, 128, 1] ![1, 1, 1, 1] ![0, 0, 127, 0] ![0, 0, 0, 0]
      (shapeCast S8x32x128x512 a shapeCasts_S8x4096x512_S8x32x128x512)
      (broadcastInDim S_ ![] bcast_S_S_ (constant (F := Ideal) S_ .f32 0x00000000#32))
      reduceWindows_S8x32x128x512_S8x32x128x512_w1s1p0_0_w1s1p0_0_w128s1p127_0_w1s1p0_0 h_S_
      = Ideal.hostReduceWindowAdd ![1, 1, 128, 1] ![1, 1, 1, 1] ![0, 0, 127, 0] ![0, 0, 0, 0]
      reduceWindows_S8x32x128x512_S8x32x128x512_w1s1p0_0_w1s1p0_0_w128s1p127_0_w1s1p0_0
      (shapeCast S8x32x128x512 a shapeCasts_S8x4096x512_S8x32x128x512) (Ideal.ofBits .f32 0x00000000#32) from rfl,
    Ideal.ofBits_zero_f32, window_sum]
  refine Finset.sum_congr rfl fun k _ => ?_
  rw [hs]

variable (m : (ℓ : Loc nD τ sig) → Buf (Elt Ideal) ℓ)

/-- The reference's last result is the running sum of the logarithm of the gate. -/
theorem res_eq (c : Dev nD) : Value.res_out7 m c
    = runArr (logArr (gateArr (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)))) := by
  show Value.res_main_v31 m c = _
  unfold Value.res_main_v31
  rfl

end Cert.ProjRefIdeal.Rows
-- ==== Proof.Proj.Reads.lean ====
module
public import proofs.«01_k».proof.Proof.Proj.Run
public import proofs.«01_k».proof.Proof.Proj.Decay
@[expose] public section
set_option maxRecDepth 16384

/-
  What the projection kernel's blocks hold: rows and columns of the arguments.
-/

noncomputable section

open Idealize.ShloMosaic Idealize.ShloMosaic.TcCoe Idealize.SL.Sem

namespace Cert.ProjIdeal.Rows

open Cert.ProjIdeal Cert.ProjIdeal.Gen Cert.ProjIdeal.Body

variable (m : (ℓ : Loc nD τ sig) → Buf (Elt Ideal) ℓ)

/-- The block each window stages at a grid point. -/
theorem idx : ∀ t : Fin cfg0.N, win0_0.index t = ![t.val / 8, t.val % 8, 0]
    ∧ win0_1.index t = ![0, 0] ∧ win0_2.index t = ![0, 0] ∧ win0_3.index t = ![0, 2] ∧ win0_4.index t = ![0, 0]
    ∧ win0_5.index t = ![0, 0] ∧ win0_6.index t = ![t.val / 8, t.val % 8, 0]
    ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0]
    ∧ win0_11.index t = ![t.val / 8, t.val % 8, 0] ∧ win0_12.index t = ![t.val / 8, t.val % 8, 0]
    ∧ win0_13.index t = ![t.val / 8, t.val % 8, 0] :=
  (by decide +kernel : ∀ t : Fin grid0.N, _)

/-- The batch a grid point works on. -/
abbrev batch (t : Fin cfg0.N) : Fin 8 := ⟨t.val / 8, by have := t.isLt; have : cfg0.N = 64 := rfl; omega⟩

/-- The row of the array that row `r` of a grid point's block is. -/
abbrev rowOf (t : Fin cfg0.N) (r : Fin 512) : Fin 4096 := ⟨t.val % 8 * 512 + r.val, by omega⟩

/-- What a buffer holds once the host operations before the call have run. -/
theorem V_eq (c : Dev nD) (b : Ref sig .tc) :
    V m c b = StableHlo.after hostOps0 (fun b => m (c, b)) (Proc.devRef .tc b) := by
  show StableHlo.after (List.flatten [hostOps0]) _ _ = _
  rw [List.flatten_cons, List.flatten_nil, List.append_nil]

variable (c : Dev nD) (t : Fin cfg0.N) (r : Fin 512)

theorem read0 (k : Fin 1024) : (show FVec Ideal S1x512x1024 .f32 from iblk m c 0 t) (ix3 0 r k)
    = (show FVec Ideal S8x4096x1024 .f32 from m ((c : Thread nD τ).loc main_arg0)) (ix3 (batch t) (rowOf t r) k) := by
  blk_point [iblk, V, idx t]

theorem read1 (k : Fin 1024) : (show FVec Ideal S1x1024 .f32 from iblk m c 1 t) (ix2 0 k)
    = (show FVec Ideal S1024 .f32 from m ((c : Thread nD τ).loc main_arg1)) (ix1 k) := by
  blk_simp [iblk, idx t]
  rw [V_eq]
  entry_read
  pointwise
  blk_ext [idx t]

theorem read2 (k : Fin 1024) (j : Fin 4608) : (show FVec Ideal S1024x4608 .f32 from X0_2 m c t) (ix2 k j)
    = (show FVec Ideal S1024x6672 .f32 from m ((c : Thread nD τ).loc main_arg2)) (ix2 k ⟨j.val, by omega⟩) := by
  unfold X0_2 Pipeline.Window.fill
  dsimp only
  rw [dif_pos (moved0_2 t _)]
  blk_point [iblk, V, idx t]

theorem read5 (j : Fin 512) : (show FVec Ideal S1x512 .f32 from iblk m c 5 t) (ix2 0 j)
    = (show FVec Ideal S512 .f32 from m ((c : Thread nD τ).loc main_arg4)) (ix1 j) := by
  blk_simp [iblk, idx t]
  rw [V_eq]
  entry_read
  pointwise
  blk_ext [idx t]

theorem read4a (i : Fin 16) (j : Fin 512) : (show FVec Ideal S128x512 .bf16 from iblk m c 4 t) (ix2 ⟨i.val, by omega⟩ j)
    = (show FVec Ideal S16x512 .f32 from m ((c : Thread nD τ).loc main_arg3)) (ix2 i j) := by
  blk_simp [iblk, idx t]
  rw [V_eq]
  entry_read
  pointwise
  rw [dif_pos (by blk_simp [idx t]; dsimp only; omega)]
  blk_ext [idx t]

theorem read4b (i : Fin 112) (j : Fin 512) : (show FVec Ideal S128x512 .bf16 from iblk m c 4 t) (ix2 ⟨16 + i.val, by omega⟩ j)
    = 0 := by
  blk_simp [iblk, idx t]
  rw [V_eq]
  entry_read
  pointwise
  rw [dif_neg (by blk_simp [idx t]; dsimp only; omega)]

theorem read3 (k : Fin 1024) (j : Fin 2304) (hj : j.val < 2064) : X3 m c t blank (ix2 k j)
    = (show FVec Ideal S1024x6672 .f32 from m ((c : Thread nD τ).loc main_arg2)) (ix2 k ⟨4608 + j.val, by omega⟩) := by
  have hm : (cfg0.win 3).moved (cfg0.grid.coords t) (ix2 k j : S1024x2304.Idx) = true :=
    ((cfg0.win 3).moved_iff _ _).mpr fun a => by
      rw [show (cfg0.win 3).xsize (cfg0.grid.coords t) a = _ from xsize3 t a]
      match a with
      | ⟨0, _⟩ => exact k.isLt
      | ⟨1, _⟩ => exact hj
  unfold X3 Pipeline.Window.fill
  dsimp only
  rw [dif_pos hm]
  blk_point [iblk, V, idx t]

theorem low_read (k : Fin 1024) (i : Fin 128) : wLow m c (ix2 k i)
    = (show FVec Ideal S1024x6672 .f32 from m ((c : Thread nD τ).loc main_arg2)) (ix2 k ⟨4608 + i.val, by omega⟩) := by
  unfold wLow
  rw [← read3 m c pt0 k ⟨i.val, by omega⟩ (by dsimp only; omega)]
  pointwise [rLow]

theorem gate_read (k : Fin 1024) (j : Fin 2048) : View.ld (X3 m c pt0 blank) rGate (ix2 k j)
    = (show FVec Ideal S1024x6672 .f32 from m ((c : Thread nD τ).loc main_arg2)) (ix2 k ⟨4624 + j.val, by omega⟩) := by
  refine Eq.trans ?_ ((read3 m c pt0 k ⟨16 + j.val, by omega⟩ (by dsimp only; omega)).trans ?_)
  · pointwise [rGate]
  · exact congrArg (fun n => (show FVec Ideal S1024x6672 .f32 from m ((c : Thread nD τ).loc main_arg2)) (ix2 k n))
      (Fin.ext (by dsimp only; omega))

end Cert.ProjIdeal.Rows
-- ==== Proof.Proj.Block.lean ====
module
public import proofs.«01_k».proof.Proof.Proj.Body
public import proofs.«01_k».proof.Proof.Proj.Decay
@[expose] public section
set_option maxRecDepth 16384

/-
  One block of the projection kernel, read at an element: what the body stores at row `r`, column `j` of each of its
  results is the normalised row times a column of the weight, or the running sum of the logarithm of the decay gate.
-/

noncomputable section

open Idealize.ShloMosaic Idealize.ShloMosaic.TcCoe Idealize.SL.Sem

namespace Cert.ProjIdeal.Block

open Cert.ProjIdeal Cert.ProjIdeal.Gen Cert.ProjIdeal.Body Cert.Layer

variable (x0 : Vec Ideal S1x512x1024 .f32) (x1 : Vec Ideal S1x1024 .f32) (x2 : Vec Ideal S1024x4608 .f32)
  (s : Vec Ideal S1024x2048 .bf16) (wl : Vec Ideal S1024x128 .f32) (x4 : Vec Ideal S128x512 .bf16)
  (x5 : Vec Ideal S1x512 .f32)

/-- The normalised row `r` of a block times a column. -/
abbrev dotRow (r : Fin 512) (w : Fin 1024 → EReal) : EReal :=
  projRow (fun k => x0 (ix3 0 r k)) (fun k => x1 (ix2 0 k)) w

theorem inv_at (r : Fin 512) : Body.inv x0 (ix2 r 0) = invRms (fun k => x0 (ix3 0 r k)) := by
  unfold invRms
  pointwise [Body.inv, rRows, k0_pay7, k0_pay6]

theorem scaled_at (r : Fin 512) (k : Fin 1024) : scaled x0 x1 (ix2 r k) = x0 (ix3 0 r k) * x1 (ix2 0 k) := by
  pointwise [scaled, rRows, rNorm, k0_pay8, k0_pay6]

theorem out6_at (r j : Fin 512) : out6 x0 x1 x2 (ix3 0 r j)
    = dotRow x0 x1 r (fun k => x2 (ix2 k ⟨j.val, by omega⟩)) * Ideal.ofBits .f32 0x3E000000#32 := by
  unfold out6
  rw [View.canon_cons_unit_lit _ _ _ (by decide), dotRow, ← proj_late, ← inv_at]
  simp only [← scaled_at x0 x1]
  pointwise [rQ, k0_pay11, k0_pay10]
  rfl

theorem out7_at (r j : Fin 512) : out7 x0 x1 x2 (ix3 0 r j)
    = dotRow x0 x1 r (fun k => x2 (ix2 k ⟨512 + j.val, by omega⟩)) := by
  unfold out7
  rw [View.canon_cons_unit_lit _ _ _ (by decide), dotRow, ← proj_late, ← inv_at]
  simp only [← scaled_at x0 x1]
  pointwise [rK, k0_pay12]

theorem out8_at (r j : Fin 512) : out8 x0 x1 x2 (ix3 0 r j)
    = dotRow x0 x1 r (fun k => x2 (ix2 k ⟨1024 + j.val, by omega⟩)) := by
  unfold out8
  rw [View.canon_cons_unit_lit _ _ _ (by decide), dotRow, ← proj_late, ← inv_at]
  simp only [← scaled_at x0 x1]
  pointwise [rV, k0_pay18]

theorem out9_at (r : Fin 512) (j : Fin 1024) : out9 x0 x1 x2 (ix3 0 r j)
    = dotRow x0 x1 r (fun k => x2 (ix2 k ⟨1536 + j.val, by omega⟩)) := by
  unfold out9
  rw [View.canon_cons_unit_lit _ _ _ (by decide), dotRow, ← proj_late, ← inv_at]
  simp only [← scaled_at x0 x1]
  pointwise [rQK, k0_pay19]

theorem out10_at (r : Fin 512) (j : Fin 1024) : out10 x0 x1 x2 (ix3 0 r j)
    = dotRow x0 x1 r (fun k => x2 (ix2 k ⟨2560 + j.val, by omega⟩)) := by
  unfold out10
  rw [View.canon_cons_unit_lit _ _ _ (by decide), dotRow, ← proj_late, ← inv_at]
  simp only [← scaled_at x0 x1]
  pointwise [rGV, k0_pay1, k0_pay26]

theorem out11_at (r : Fin 512) (j : Fin 1024) : out11 x0 x1 x2 (ix3 0 r j)
    = dotRow x0 x1 r (fun k => x2 (ix2 k ⟨3584 + j.val, by omega⟩)) := by
  unfold out11
  rw [View.canon_cons_unit_lit _ _ _ (by decide), dotRow, ← proj_late, ← inv_at]
  simp only [← scaled_at x0 x1]
  pointwise [rGO, k0_pay2]

theorem out12_at (r : Fin 512) (j : Fin 2048) : out12 x0 x1 s (ix3 0 r j)
    = dotRow x0 x1 r (fun k => s (ix2 k j)) := by
  rw [dotRow, ← proj_late, ← inv_at]
  simp only [← scaled_at x0 x1]
  unfold out12
  canon_tiles x h using coverGate (F := Ideal) _ _ _
  all_goals
    idx_vars x
    pointwise [k0_pay3, k0_pay4, rCopy0, rCopy1]
    obtain rfl : r = x1 := Fin.ext h1
    first
    | rw [show j = (⟨1024 + x2.val, by omega⟩ : Fin 2048) from Fin.ext h2]
    | rw [show j = (⟨x2.val, by omega⟩ : Fin 2048) from Fin.ext h2]

theorem copy_at (w : Vec Ideal S1024x2048 .f32) (k : Fin 1024) (j : Fin 2048) :
    copyOf (F := Ideal) w (ix2 k j) = w (ix2 k j) := by
  unfold copyOf
  rw [View.canon_cons_unit_lit _ _ _ (by decide)]
  pointwise [k0_pay5]

/-- The decay gate before the logistic function. -/
def gate (r j : Fin 512) : EReal :=
  (∑ i : Fin 128, dotRow x0 x1 r (fun k => wl (ix2 k i)) * x4 (ix2 i j)) + x5 (ix2 0 j)

theorem low_at (r : Fin 512) (i : Fin 128) : low x0 x1 wl (ix2 r i) = dotRow x0 x1 r (fun k => wl (ix2 k i)) := by
  rw [dotRow, ← proj_late, ← inv_at]
  simp only [← scaled_at x0 x1]
  pointwise [low, k0_pay9, Body.inv, scaled]

theorem log0_at (r j : Fin 512) : log0 x0 x1 wl x4 x5 (ix2 r j) = logGate (gate x0 x1 wl x4 x5 r j) := by
  rw [← logGate_product]
  unfold gate
  simp only [← low_at x0 x1 wl]
  pointwise [log0, k0_pay14, k0_pay13, rUp, rBias]
  rfl

theorem log1_at (r j : Fin 512) : log1 x0 x1 wl x4 x5 (ix2 r j)
    = log0 x0 x1 wl x4 x5 (ix2 r j) - log0 x0 x1 wl x4 x5 (ix2 r j) := by
  unfold log1 log0
  generalize low x0 x1 wl = a
  pointwise [k0_pay16, k0_pay15, k0_pay14]

theorem log2_at (r j : Fin 512) : log2 x0 x1 wl x4 x5 (ix2 r j)
    = log0 x0 x1 wl x4 x5 (ix2 r j) - log0 x0 x1 wl x4 x5 (ix2 r j)
      - (log0 x0 x1 wl x4 x5 (ix2 r j) - log0 x0 x1 wl x4 x5 (ix2 r j)) := by
  unfold log2 log0
  generalize low x0 x1 wl = a
  pointwise [k0_pay17, k0_pay16, k0_pay15, k0_pay14]

/-- The triangular matrix, three times side by side. -/
theorem mask_at (r : Fin 128) (c : Fin 384) :
    k0_pay20 (F := Ideal) (ix2 r c) = if c.val % 128 ≤ r.val then 1 else 0 := by
  have hw : ∀ c : Fin 384, Scalar.select
      (IntOp.andi
        (IntOp.xori
          (IntOp.cmpi CmpIPredicate.slt
            (IntOp.remsi ArithUnit.vector (BitVec.ofNat 32 c.val)
              (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne
          (IntOp.remsi ArithUnit.vector (BitVec.ofNat 32 c.val)
            (Scalar.select (Scalar.cmpi CmpIPredicate.eq 128#32 0#32) 1#32 128#32)) 0#32))
      (IntOp.addi
        (IntOp.remsi ArithUnit.vector (BitVec.ofNat 32 c.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 c.val)
        (Scalar.select (Scalar.cmpi CmpIPredicate.eq 128#32 0#32) 1#32 128#32))
      = BitVec.ofNat 32 (c.val % 128) := by decide +kernel
  have hc : ∀ a r : Fin 128, (BitVec.setWidth 32 (IntOp.cmpi CmpIPredicate.sle (BitVec.ofNat 32 a.val) (BitVec.ofNat 32 r.val))).toInt
      = if a.val ≤ r.val then 1 else 0 := by decide +kernel
  pointwise [k0_pay20]
  rw [hw c]
  refine (congrArg (fun z : ℤ => ((z : ℝ) : EReal)) (hc ⟨c.val % 128, Nat.mod_lt _ (by omega)⟩ r)).trans ?_
  dsimp only
  split <;> simp

theorem out13_at (r j : Fin 512) : out13 x0 x1 wl x4 x5 (ix3 0 r j)
    = ∑ k : Fin 128, if k.val ≤ r.val % 128 then logGate (gate x0 x1 wl x4 x5 ⟨r.val / 128 * 128 + k.val, by omega⟩ j) else 0 := by
  simp only [← log0_at]
  have ht : ∀ r, log0 x0 x1 wl x4 x5 (ix2 r j) ≠ ⊤ := fun r => by rw [log0_at]; exact logGate_ne_top _
  have l1 := fun r => log1_at x0 x1 wl x4 x5 r j
  have l2 := fun r => log2_at x0 x1 wl x4 x5 r j
  unfold out13
  generalize log0 x0 x1 wl x4 x5 = g0 at *
  generalize log1 x0 x1 wl x4 x5 = g1 at *
  generalize log2 x0 x1 wl x4 x5 = g2 at *
  canon_tiles x h using coverDec (F := Ideal) _ _ _ _ _
  all_goals
    idx_vars x
    pointwise [k0_pay21, k0_pay22, k0_pay23, k0_pay24, k0_pay25]
    obtain rfl : j = x2 := Fin.ext h2
    refine triangle (fun k => k0_pay20 (F := Ideal) (ix2 x1 k)) _
      (fun k => g0 (ix2 ⟨r.val / 128 * 128 + k.val, by omega⟩ j)) (r.val % 128) (fun k => ht _)
      (fun k => (mask_at x1 k).trans (if_congr (by rw [show r.val % 128 = x1.val by omega]) rfl rfl))
      (fun k => ?_) (fun k => ?_) (fun k => ?_)
    · dsimp only
      rw [dif_pos k.isLt]
      exact congrArg (fun i => g0 (ix2 i j)) (Fin.ext (by dsimp only; omega))
    · dsimp only
      rw [dif_neg (by omega), dif_pos (by omega)]
      exact (congrArg (fun i => g1 (ix2 i j)) (Fin.ext (by dsimp only; omega))).trans (l1 _)
    · dsimp only
      rw [dif_neg (by omega), dif_neg (by omega)]
      exact (congrArg (fun i => g2 (ix2 i j)) (Fin.ext (by dsimp only; omega))).trans (l2 _)

end Cert.ProjIdeal.Block
-- ==== Proof.Proj.Final.lean ====
module
public import proofs.«01_k».proof.Proof.Proj.Ref
public import proofs.«01_k».proof.Proof.Proj.Reads
public import proofs.«01_k».proof.Proof.Proj.Block
@[expose] public section
set_option maxRecDepth 16384

/-
  The eight result arrays of the projection after the run are the reference's.
-/

noncomputable section

open Idealize.ShloMosaic Idealize.ShloMosaic.TcCoe Idealize.SL.Sem

namespace Cert.ProjIdeal.Rows

open Cert.ProjIdeal Cert.ProjIdeal.Gen Cert.ProjIdeal.Body Cert.Layer

variable (m : (ℓ : Loc nD τ sig) → Buf (Elt Ideal) ℓ)

/-- The five arguments of a launch. -/
abbrev arg0 (c : Dev nD) : FVec Ideal S8x4096x1024 .f32 := m ((c : Thread nD τ).loc main_arg0)
abbrev arg1 (c : Dev nD) : FVec Ideal S1024 .f32 := m ((c : Thread nD τ).loc main_arg1)
abbrev arg2 (c : Dev nD) : FVec Ideal S1024x6672 .f32 := m ((c : Thread nD τ).loc main_arg2)
abbrev arg3 (c : Dev nD) : FVec Ideal S16x512 .f32 := m ((c : Thread nD τ).loc main_arg3)
abbrev arg4 (c : Dev nD) : FVec Ideal S512 .f32 := m ((c : Thread nD τ).loc main_arg4)

section rows

variable (c : Dev nD) (t : Fin cfg0.N) (r : Fin 512)

/-- A row of a block times a column is the row of the array times that column of the weight. -/
theorem dot_eq (v : Fin 1024 → EReal) (n : Fin 6672) (hv : ∀ k, v k = arg2 m c (ix2 k n)) :
    Block.dotRow (iblk m c 0 t) (iblk m c 1 t) r v
      = Cert.ProjRefIdeal.Rows.at_ (arg0 m c) (arg1 m c) (arg2 m c) (batch t) (rowOf t r) n := by
  unfold Block.dotRow
  exact congr (congr (congrArg projRow (funext fun k => read0 m c t r k)) (funext fun k => read1 m c t k)) (funext hv)

/-- The decay gate of a block's row: the padding of the second weight adds nothing. -/
theorem gate_eq (r : Fin 512) (j : Fin 512) :
    Block.gate (iblk m c 0 t) (iblk m c 1 t) (wLow m c) (iblk m c 4 t) (iblk m c 5 t) r j
      = Cert.ProjRefIdeal.Rows.gateArr (arg0 m c) (arg1 m c) (arg2 m c) (arg3 m c) (arg4 m c)
          (ix3 (batch t) (rowOf t r) j) := by
  rw [Cert.ProjRefIdeal.Rows.gate_at]
  unfold Block.gate
  refine congr (congrArg HAdd.hAdd ?_) (read5 m c t j)
  refine (Fin.sum_univ_add (a := 16) (b := 112) _).trans ?_
  refine (congr (congrArg HAdd.hAdd (Finset.sum_congr rfl fun i _ => ?_)) (Finset.sum_eq_zero fun i _ => ?_)).trans (add_zero _)
  · exact congr (congrArg HMul.hMul (dot_eq m c t r _ ⟨4608 + i.val, by omega⟩ fun k => low_read m c k ⟨i.val, by omega⟩))
      (read4a m c t i j)
  · exact (congrArg _ (read4b m c t i j)).trans (mul_zero _)

end rows

theorem final6 (c : Dev nD) : (dats m 0 c).arrAt 6 (cfgs 0).N
    = (show FVec Ideal S8x4096x512 .f32 from Cert.ProjRefIdeal.Rows.queryArr (arg0 m c) (arg1 m c) (arg2 m c)) := by
  refine (dats m 0 c).arrAt_eq_of_covers 6 _ (by decide +kernel) fun t _ y => ?_
  blk_simp
  rw [after6]
  idx_vars y
  obtain rfl : y0 = 0 := Subsingleton.elim _ _
  refine (Block.out6_at _ _ _ y1 y2).trans (Eq.trans ?_ ((Cert.ProjRefIdeal.Rows.query_at (arg0 m c) (arg1 m c) (arg2 m c)
    (batch t) (rowOf t y1) y2).symm.trans ?_))
  · exact congrArg (· * Ideal.ofBits .f32 0x3E000000#32) (dot_eq m c t y1 _ ⟨y2.val, by omega⟩ fun k => read2 m c t k _)
  · refine congrArg (Cert.ProjRefIdeal.Rows.queryArr (arg0 m c) (arg1 m c) (arg2 m c)) ?_
    blk_ext [idx t]

theorem final7 (c : Dev nD) : (dats m 0 c).arrAt 7 (cfgs 0).N
    = (show FVec Ideal S8x4096x512 .f32 from Cert.ProjRefIdeal.Rows.keyArr (arg0 m c) (arg1 m c) (arg2 m c)) := by
  refine (dats m 0 c).arrAt_eq_of_covers 7 _ (by decide +kernel) fun t _ y => ?_
  blk_simp
  rw [after7]
  idx_vars y
  obtain rfl : y0 = 0 := Subsingleton.elim _ _
  refine (Block.out7_at _ _ _ y1 y2).trans (Eq.trans ?_ ((Cert.ProjRefIdeal.Rows.key_at (arg0 m c) (arg1 m c) (arg2 m c)
    (batch t) (rowOf t y1) y2).symm.trans ?_))
  · exact dot_eq m c t y1 _ ⟨512 + y2.val, by omega⟩ fun k => read2 m c t k _
  · refine congrArg (Cert.ProjRefIdeal.Rows.keyArr (arg0 m c) (arg1 m c) (arg2 m c)) ?_
    blk_ext [idx t]

theorem final8 (c : Dev nD) : (dats m 0 c).arrAt 8 (cfgs 0).N
    = (show FVec Ideal S8x4096x512 .f32 from Cert.ProjRefIdeal.Rows.valueArr (arg0 m c) (arg1 m c) (arg2 m c)) := by
  refine (dats m 0 c).arrAt_eq_of_covers 8 _ (by decide +kernel) fun t _ y => ?_
  blk_simp
  rw [after8]
  idx_vars y
  obtain rfl : y0 = 0 := Subsingleton.elim _ _
  refine (Block.out8_at _ _ _ y1 y2).trans (Eq.trans ?_ ((Cert.ProjRefIdeal.Rows.value_at (arg0 m c) (arg1 m c) (arg2 m c)
    (batch t) (rowOf t y1) y2).symm.trans ?_))
  · exact dot_eq m c t y1 _ ⟨1024 + y2.val, by omega⟩ fun k => read2 m c t k _
  · refine congrArg (Cert.ProjRefIdeal.Rows.valueArr (arg0 m c) (arg1 m c) (arg2 m c)) ?_
    blk_ext [idx t]

theorem final9 (c : Dev nD) : (dats m 0 c).arrAt 9 (cfgs 0).N
    = (show FVec Ideal S8x4096x1024 .f32 from Cert.ProjRefIdeal.Rows.lateArr1 (arg0 m c) (arg1 m c) (arg2 m c)) := by
  refine (dats m 0 c).arrAt_eq_of_covers 9 _ (by decide +kernel) fun t _ y => ?_
  blk_simp
  rw [after9]
  idx_vars y
  obtain rfl : y0 = 0 := Subsingleton.elim _ _
  refine (Block.out9_at _ _ _ y1 y2).trans (Eq.trans ?_ ((Cert.ProjRefIdeal.Rows.late1_at (arg0 m c) (arg1 m c) (arg2 m c)
    (batch t) (rowOf t y1) y2).symm.trans ?_))
  · exact dot_eq m c t y1 _ ⟨1536 + y2.val, by omega⟩ fun k => read2 m c t k _
  · refine congrArg (Cert.ProjRefIdeal.Rows.lateArr1 (arg0 m c) (arg1 m c) (arg2 m c)) ?_
    blk_ext [idx t]

theorem final10 (c : Dev nD) : (dats m 0 c).arrAt 10 (cfgs 0).N
    = (show FVec Ideal S8x4096x1024 .f32 from Cert.ProjRefIdeal.Rows.lateArr2 (arg0 m c) (arg1 m c) (arg2 m c)) := by
  refine (dats m 0 c).arrAt_eq_of_covers 10 _ (by decide +kernel) fun t _ y => ?_
  blk_simp
  rw [after10]
  idx_vars y
  obtain rfl : y0 = 0 := Subsingleton.elim _ _
  refine (Block.out10_at _ _ _ y1 y2).trans (Eq.trans ?_ ((Cert.ProjRefIdeal.Rows.late2_at (arg0 m c) (arg1 m c) (arg2 m c)
    (batch t) (rowOf t y1) y2).symm.trans ?_))
  · exact dot_eq m c t y1 _ ⟨2560 + y2.val, by omega⟩ fun k => read2 m c t k _
  · refine congrArg (Cert.ProjRefIdeal.Rows.lateArr2 (arg0 m c) (arg1 m c) (arg2 m c)) ?_
    blk_ext [idx t]

theorem final11 (c : Dev nD) : (dats m 0 c).arrAt 11 (cfgs 0).N
    = (show FVec Ideal S8x4096x1024 .f32 from Cert.ProjRefIdeal.Rows.lateArr3 (arg0 m c) (arg1 m c) (arg2 m c)) := by
  refine (dats m 0 c).arrAt_eq_of_covers 11 _ (by decide +kernel) fun t _ y => ?_
  blk_simp
  rw [after11]
  idx_vars y
  obtain rfl : y0 = 0 := Subsingleton.elim _ _
  refine (Block.out11_at _ _ _ y1 y2).trans (Eq.trans ?_ ((Cert.ProjRefIdeal.Rows.late3_at (arg0 m c) (arg1 m c) (arg2 m c)
    (batch t) (rowOf t y1) y2).symm.trans ?_))
  · exact dot_eq m c t y1 _ ⟨3584 + y2.val, by omega⟩ fun k => read2 m c t k _
  · refine congrArg (Cert.ProjRefIdeal.Rows.lateArr3 (arg0 m c) (arg1 m c) (arg2 m c)) ?_
    blk_ext [idx t]

theorem final12 (c : Dev nD) : (dats m 0 c).arrAt 12 (cfgs 0).N
    = (show FVec Ideal S8x4096x2048 .f32 from Cert.ProjRefIdeal.Rows.gatesArr (arg0 m c) (arg1 m c) (arg2 m c)) := by
  refine (dats m 0 c).arrAt_eq_of_covers 12 _ (by decide +kernel) fun t _ y => ?_
  blk_simp
  rw [after12]
  idx_vars y
  obtain rfl : y0 = 0 := Subsingleton.elim _ _
  refine (Block.out12_at _ _ _ y1 y2).trans (Eq.trans ?_ ((Cert.ProjRefIdeal.Rows.gates_at (arg0 m c) (arg1 m c) (arg2 m c)
    (batch t) (rowOf t y1) y2).symm.trans ?_))
  · exact dot_eq m c t y1 _ ⟨4624 + y2.val, by omega⟩ fun k => (Block.copy_at _ k y2).trans (gate_read m c k y2)
  · refine congrArg (Cert.ProjRefIdeal.Rows.gatesArr (arg0 m c) (arg1 m c) (arg2 m c)) ?_
    blk_ext [idx t]

theorem final13 (c : Dev nD) : (dats m 0 c).arrAt 13 (cfgs 0).N
    = (show FVec Ideal S8x4096x512 .f32 from Cert.ProjRefIdeal.Rows.runArr (Cert.ProjRefIdeal.Rows.logArr
        (Cert.ProjRefIdeal.Rows.gateArr (arg0 m c) (arg1 m c) (arg2 m c) (arg3 m c) (arg4 m c)))) := by
  refine (dats m 0 c).arrAt_eq_of_covers 13 _ (by decide +kernel) fun t _ y => ?_
  blk_simp
  rw [after13]
  idx_vars y
  obtain rfl : y0 = 0 := Subsingleton.elim _ _
  refine (Block.out13_at _ _ _ _ _ y1 y2).trans (Eq.trans ?_ ((Cert.ProjRefIdeal.Rows.run_at
    (Cert.ProjRefIdeal.Rows.logArr (Cert.ProjRefIdeal.Rows.gateArr (arg0 m c) (arg1 m c) (arg2 m c) (arg3 m c) (arg4 m c)))
    (batch t) (rowOf t y1) y2).symm.trans ?_))
  · refine Finset.sum_congr rfl fun k _ => ?_
    have hm : (rowOf t y1).val % 128 = y1.val % 128 := by dsimp only [rowOf]; omega
    rw [Cert.ProjRefIdeal.Rows.log_at, hm, gate_eq]
    refine if_congr Iff.rfl (congrArg (fun n => logGate (Cert.ProjRefIdeal.Rows.gateArr (arg0 m c) (arg1 m c) (arg2 m c)
      (arg3 m c) (arg4 m c) (ix3 (batch t) n y2))) (Fin.ext ?_)) rfl
    dsimp only [rowOf]
    omega
  · refine congrArg (Cert.ProjRefIdeal.Rows.runArr _) ?_
    blk_ext [idx t]

end Cert.ProjIdeal.Rows
-- ==== Proof.Proj.Claims.lean ====
module
public import proofs.«01_k».proof.Defs
public import proofs.«01_k».proof.Proof.Proj.Same
public import proofs.«01_k».proof.Proof.Proj.Final
public import Idealize.ShloMosaic.Lib.Claim
public import Idealize.ShloMosaic.Lib.Quiescent
@[expose] public section

/-
  The claims about the input projection: the normalised input times the weight, split into its eight results.
-/

noncomputable section

namespace Cert.ProjIdeal.Rows

open Cert.ProjIdeal Cert.ProjIdeal.Gen Cert.ProjIdeal.Body
open Idealize.ShloMosaic Idealize.ShloMosaic.TcCoe Idealize.SL.Sem

variable (m : (ℓ : Loc nD τ sig) → Buf (Elt Ideal) ℓ)

/-! A result the host casts after the call is the array of the kernel's own result: a cast changes no value. -/

theorem tail_v6 (c : Dev nD) : Pipeline.afterTail₀ cfgs (dats m) 0 (V0 m) [hostOps1] c main_v6
    = (show FVec Ideal S8x4096x512 .f32 from (dats m 0 c).arrAt 6 (cfgs 0).N) := by
  unfold Pipeline.afterTail₀
  rw [List.flatten_cons, List.flatten_nil, List.append_nil]
  simp only [hostOps1, StableHlo.after_cons, StableHlo.after_nil]
  after_results_simp
  exact (dats m 0 c).withArrays_arrAt launch₀0.sharedIn (V0 m c) (A_eq m c) 6

theorem tail_v7 (c : Dev nD) : Pipeline.afterTail₀ cfgs (dats m) 0 (V0 m) [hostOps1] c main_v7
    = (show FVec Ideal S8x4096x512 .f32 from (dats m 0 c).arrAt 7 (cfgs 0).N) := by
  unfold Pipeline.afterTail₀
  rw [List.flatten_cons, List.flatten_nil, List.append_nil]
  simp only [hostOps1, StableHlo.after_cons, StableHlo.after_nil]
  after_results_simp
  exact (dats m 0 c).withArrays_arrAt launch₀0.sharedIn (V0 m c) (A_eq m c) 7

theorem tail_v8 (c : Dev nD) : Pipeline.afterTail₀ cfgs (dats m) 0 (V0 m) [hostOps1] c main_v8
    = (show FVec Ideal S8x4096x512 .f32 from (dats m 0 c).arrAt 8 (cfgs 0).N) := by
  unfold Pipeline.afterTail₀
  rw [List.flatten_cons, List.flatten_nil, List.append_nil]
  simp only [hostOps1, StableHlo.after_cons, StableHlo.after_nil]
  after_results_simp
  exact (dats m 0 c).withArrays_arrAt launch₀0.sharedIn (V0 m c) (A_eq m c) 8

theorem tail_v9 (c : Dev nD) : Pipeline.afterTail₀ cfgs (dats m) 0 (V0 m) [hostOps1] c main_v9
    = (show FVec Ideal S8x4096x1024 .f32 from (dats m 0 c).arrAt 9 (cfgs 0).N) := by
  unfold Pipeline.afterTail₀
  rw [List.flatten_cons, List.flatten_nil, List.append_nil]
  simp only [hostOps1, StableHlo.after_cons, StableHlo.after_nil]
  after_results_simp
  exact (dats m 0 c).withArrays_arrAt launch₀0.sharedIn (V0 m c) (A_eq m c) 9

theorem tail_v10 (c : Dev nD) : Pipeline.afterTail₀ cfgs (dats m) 0 (V0 m) [hostOps1] c main_v10
    = (show FVec Ideal S8x4096x1024 .f32 from (dats m 0 c).arrAt 10 (cfgs 0).N) := by
  unfold Pipeline.afterTail₀
  rw [List.flatten_cons, List.flatten_nil, List.append_nil]
  simp only [hostOps1, StableHlo.after_cons, StableHlo.after_nil]
  after_results_simp
  exact (dats m 0 c).withArrays_arrAt launch₀0.sharedIn (V0 m c) (A_eq m c) 10

theorem tail_v11 (c : Dev nD) : Pipeline.afterTail₀ cfgs (dats m) 0 (V0 m) [hostOps1] c main_v11
    = (show FVec Ideal S8x4096x1024 .f32 from (dats m 0 c).arrAt 11 (cfgs 0).N) := by
  unfold Pipeline.afterTail₀
  rw [List.flatten_cons, List.flatten_nil, List.append_nil]
  simp only [hostOps1, StableHlo.after_cons, StableHlo.after_nil]
  after_results_simp
  exact (dats m 0 c).withArrays_arrAt launch₀0.sharedIn (V0 m c) (A_eq m c) 11

theorem tail_v12 (c : Dev nD) : Pipeline.afterTail₀ cfgs (dats m) 0 (V0 m) [hostOps1] c main_v12
    = (show FVec Ideal S8x4096x2048 .f32 from (dats m 0 c).arrAt 12 (cfgs 0).N) := by
  unfold Pipeline.afterTail₀
  rw [List.flatten_cons, List.flatten_nil, List.append_nil]
  simp only [hostOps1, StableHlo.after_cons, StableHlo.after_nil]
  after_results_simp
  exact (dats m 0 c).withArrays_arrAt launch₀0.sharedIn (V0 m c) (A_eq m c) 12

end Cert.ProjIdeal.Rows

namespace Cert.Proj.Claims

open Idealize.ShloMosaic Idealize.ShloMosaic.TcCoe Idealize.SL.Sem

theorem frameIdeal : quiescent_ProjIdeal (hProjIdeal := Cert.ProjIdeal.Gen.facts) := fun m ρ _ => Cert.ProjIdeal.Body.frame m ρ

theorem frameRef : quiescent_ProjRefIdeal (hProjRefIdeal := Cert.ProjRefIdeal.Gen.facts) := fun m ρ _ =>
  (θ_run Cert.ProjRefIdeal.defs _ _).mono
    (fun r h => ⟨fun c => (h c).2.2.2.2.2.2.2.2, sem_eq_zero_of_no_sems (by decide) r.2⟩) (Cert.ProjRefIdeal.Value.run m ρ)

theorem preserves : preserves_Proj_ProjIdeal := trivial

set_option maxHeartbeats 1600000 in
open Cert.ProjIdeal.Rows in
theorem algebraic : algebraic_ProjIdeal_ProjRefIdeal (hProjIdeal := Cert.ProjIdeal.Gen.facts)
    (hProjRefIdeal := Cert.ProjRefIdeal.Gen.facts) := by
  intro m g m' g' _ hagree
  refine ⟨fun c => (Cert.ProjIdeal.Body.dats m 0 c).arrAt 6 (Cert.ProjIdeal.cfgs 0).N,
    fun c => (Cert.ProjIdeal.Body.dats m 0 c).arrAt 7 (Cert.ProjIdeal.cfgs 0).N,
    fun c => (Cert.ProjIdeal.Body.dats m 0 c).arrAt 8 (Cert.ProjIdeal.cfgs 0).N,
    fun c => (Cert.ProjIdeal.Body.dats m 0 c).arrAt 9 (Cert.ProjIdeal.cfgs 0).N,
    fun c => (Cert.ProjIdeal.Body.dats m 0 c).arrAt 10 (Cert.ProjIdeal.cfgs 0).N,
    fun c => (Cert.ProjIdeal.Body.dats m 0 c).arrAt 11 (Cert.ProjIdeal.cfgs 0).N,
    fun c => (Cert.ProjIdeal.Body.dats m 0 c).arrAt 12 (Cert.ProjIdeal.cfgs 0).N,
    fun c => (Cert.ProjIdeal.Body.dats m 0 c).arrAt 13 (Cert.ProjIdeal.cfgs 0).N,
    (θ_run Cert.ProjIdeal.defs _ _).mono (fun r h c => ?_)
    (θ_run_and (Cert.ProjIdeal.Body.run_main m g) (Cert.ProjIdeal.Body.frame m g)),
    (θ_run Cert.ProjRefIdeal.defs _ _).mono (fun r h c => ?_) (Cert.ProjRefIdeal.Value.run m' g')⟩
  · obtain ⟨⟨hp, _⟩, hf, _⟩ := h
    have hr := fun b hb => (hp c).2 b hb
    exact ⟨
      (hr Cert.ProjIdeal.main_v6 (Pipeline.mem_restRefs_of Cert.ProjIdeal.main_v6 (by decide) (by decide))).trans (tail_v6 m c),
      (hr Cert.ProjIdeal.main_v7 (Pipeline.mem_restRefs_of Cert.ProjIdeal.main_v7 (by decide) (by decide))).trans (tail_v7 m c),
      (hr Cert.ProjIdeal.main_v8 (Pipeline.mem_restRefs_of Cert.ProjIdeal.main_v8 (by decide) (by decide))).trans (tail_v8 m c),
      (hr Cert.ProjIdeal.main_v9 (Pipeline.mem_restRefs_of Cert.ProjIdeal.main_v9 (by decide) (by decide))).trans (tail_v9 m c),
      (hr Cert.ProjIdeal.main_v10 (Pipeline.mem_restRefs_of Cert.ProjIdeal.main_v10 (by decide) (by decide))).trans (tail_v10 m c),
      (hr Cert.ProjIdeal.main_v11 (Pipeline.mem_restRefs_of Cert.ProjIdeal.main_v11 (by decide) (by decide))).trans (tail_v11 m c),
      (hr Cert.ProjIdeal.main_v12 (Pipeline.mem_restRefs_of Cert.ProjIdeal.main_v12 (by decide) (by decide))).trans (tail_v12 m c),
      (hp c).1 13, hf c⟩
  · obtain ⟨h0, h1, h2, h3, h4⟩ := hagree c
    obtain ⟨r0, r1, r2, r3, r4, r5, r6, r7, hargs⟩ := h c
    refine ⟨r0.trans ?_, r1.trans ?_, r2.trans ?_, r3.trans ?_, r4.trans ?_, r5.trans ?_, r6.trans ?_, r7.trans ?_, hargs⟩
    · rw [h0, h1, h2]; exact (final6 m c).symm
    · rw [h0, h1, h2]; exact (final7 m c).symm
    · rw [h0, h1, h2]; exact (final8 m c).symm
    · rw [h0, h1, h2]; exact (final9 m c).symm
    · rw [h0, h1, h2]; exact (final10 m c).symm
    · rw [h0, h1, h2]; exact (final11 m c).symm
    · rw [h0, h1, h2]; exact (final12 m c).symm
    · refine (Cert.ProjRefIdeal.Rows.res_eq m' c).trans ?_
      rw [h0, h1, h2, h3, h4]
      exact (final13 m c).symm

end Cert.Proj.Claims
-- ==== Proof.Gla.Body.lean ====
module

public import proofs.«01_k».proof.Proof.Gen.GlaIdeal.Launch
public import proofs.«01_k».proof.Proof.Gen.GlaIdeal.Skeleton
public import proofs.«01_k».proof.Proof.Gen.GlaIdeal.Points
public import proofs.«01_k».proof.Proof.Gen.GlaIdeal.Loops
public import proofs.«01_k».proof.Proof.Gen.GlaIdeal.Frame
public import Idealize.ShloMosaic.Lib.Pipeline.FrameBody
public import Idealize.ShloMosaic.Lib.Claim
public import Idealize.ShloMosaic.Lib.Tactic

@[expose] public section

/-
  One grid point of the gated linear attention, for any values: whichever way it scores each group of four chunks,
  the body runs to its end, leaves its six operands as they were, and touches nothing but its result's buffer and the
  three buffers of its own (the state, the two groups of unfinished results, and the flags that choose the scoring).
-/

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-! Where a trip keeps its group's unfinished results: the two halves of the buffer take turns. -/

instance (k : Fin k0_t1_loop.trips) : ClosedOff (k0_off9 k) := ⟨![(k.val + 1) % 2, 0, 0], by revert k; decide +kernel⟩
instance (k : Fin k0_t1_loop.trips) : ClosedOff (k0_off10 k) := ⟨![(k.val + 1) % 2, 128, 0], by revert k; decide +kernel⟩
instance (k : Fin k0_t1_loop.trips) : ClosedOff (k0_off11 k) := ⟨![(k.val + 1) % 2, 256, 0], by revert k; decide +kernel⟩
instance (k : Fin k0_t1_loop.trips) : ClosedOff (k0_off12 k) := ⟨![(k.val + 1) % 2, 384, 0], by revert k; decide +kernel⟩
instance (k : Fin k0_t1_loop.trips) : ClosedOff (k0_off20 k) := ⟨![(k.val + 1) % 2, 0, 0], by revert k; decide +kernel⟩
instance (k : Fin k0_t1_loop.trips) : ClosedOff (k0_off21 k) := ⟨![(k.val + 1) % 2, 128, 0], by revert k; decide +kernel⟩
instance (k : Fin k0_t1_loop.trips) : ClosedOff (k0_off22 k) := ⟨![(k.val + 1) % 2, 256, 0], by revert k; decide +kernel⟩
instance (k : Fin k0_t1_loop.trips) : ClosedOff (k0_off23 k) := ⟨![(k.val + 1) % 2, 384, 0], by revert k; decide +kernel⟩

/-- The operands' buffers at given contents, the result's and the body's own at any. -/
abbrev held (c : Dev nD) (arg2 : Memref sig .tc .vmem S1x4096x128 .bf16) (arg3 : Memref sig .tc .vmem S1x4096x128 .bf16) (arg4 : Memref sig .tc .vmem S1x4096x256 .bf16) (arg5 : Memref sig .tc .vmem S1x4096x256 .bf16) (arg6 : Memref sig .tc .vmem S1x4096x128 .f32) (arg7 : Memref sig .tc .vmem S1x256 .f32) (arg8 : Memref sig .tc .vmem S1x4096x256 .bf16) (arg9 : Memref sig .tc .vmem S256x128 .f32) (arg10 : Memref sig .tc .vmem S2x512x256 .f32) (arg11 : Memref sig .tc .smem S8 .i32)
    (f0 : Buf (Elt F) (arg2.view.loc (c : Thread nD τ))) (f1 : Buf (Elt F) (arg3.view.loc (c : Thread nD τ))) (f2 : Buf (Elt F) (arg4.view.loc (c : Thread nD τ))) (f3 : Buf (Elt F) (arg5.view.loc (c : Thread nD τ))) (f4 : Buf (Elt F) (arg6.view.loc (c : Thread nD τ))) (f5 : Buf (Elt F) (arg7.view.loc (c : Thread nD τ))) : sProp 𝕄 :=
  iprop((arg2.view.loc (c : Thread nD τ) ↦[arg2.view.set]{fullShare} f0) ∗ (arg3.view.loc (c : Thread nD τ) ↦[arg3.view.set]{fullShare} f1) ∗ (arg4.view.loc (c : Thread nD τ) ↦[arg4.view.set]{fullShare} f2) ∗ (arg5.view.loc (c : Thread nD τ) ↦[arg5.view.set]{fullShare} f3) ∗ (arg6.view.loc (c : Thread nD τ) ↦[arg6.view.set]{fullShare} f4) ∗ (arg7.view.loc (c : Thread nD τ) ↦[arg7.view.set]{fullShare} f5) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))

set_option maxHeartbeats 4000000 in
/-- A trip of the loop over the groups, either way of scoring. -/
theorem trip (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S256x128 .f32) (harg9 : arg9.IsWhole) (arg10 : Memref sig .tc .vmem S2x512x256 .f32) (harg10 : arg10.IsWhole) (arg11 : Memref sig .tc .smem S8 .i32) (harg11 : arg11.IsWhole)
    (v2 v52 : IVec S128x128 1) (v74 v79 v84 v89 v94 v99 v104 v109 v114 v119 v124 v129 v134 v139 v144 v149 : FVec F S128x128 .bf16) (v219 : FVec F S256x128 .f32) (v220 : Vec F S256x128 .f32)
    (f0 : Buf (Elt F) (arg2.view.loc (c : Thread nD τ))) (f1 : Buf (Elt F) (arg3.view.loc (c : Thread nD τ))) (f2 : Buf (Elt F) (arg4.view.loc (c : Thread nD τ))) (f3 : Buf (Elt F) (arg5.view.loc (c : Thread nD τ))) (f4 : Buf (Elt F) (arg6.view.loc (c : Thread nD τ))) (f5 : Buf (Elt F) (arg7.view.loc (c : Thread nD τ)))
    (k : Fin k0_t1_loop.trips) (acc : Unit) :
    (held c arg2 arg3 arg4 arg5 arg6 arg7 arg8 arg9 arg10 arg11 f0 f1 f2 f3 f4 f5 : sProp 𝕄)
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 v2 v52 v74 v79 v84 v89 v94 v99 v104 v109 v114 v119 v124 v129 v134 v139 v144 v149 v219 v220 k acc)
        (fun _ => held c arg2 arg3 arg4 arg5 arg6 arg7 arg8 arg9 arg10 arg11 f0 f1 f2 f3 f4 f5) := by
  unfold held k0_t1_body
  iintro ⟨H0, H1, H2, H3, H4, H5, ⟨%f6, H6⟩, ⟨%f7, H7⟩, ⟨%f8, H8⟩, ⟨%f9, H9⟩⟩
  sl_exec
  by_cases h : trip.sl.v348 c arg11 k f9 = 1#1
  · sl_exec
    sl_step
    sl_close
  · sl_exec
    sl_step
    sl_close

set_option warn.classDefReducibility false in
/-- So the whole loop keeps them. -/
@[sl_loop] def loopHeld (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S256x128 .f32) (harg9 : arg9.IsWhole) (arg10 : Memref sig .tc .vmem S2x512x256 .f32) (harg10 : arg10.IsWhole) (arg11 : Memref sig .tc .smem S8 .i32) (harg11 : arg11.IsWhole)
    (v2 v52 : IVec S128x128 1) (v74 v79 v84 v89 v94 v99 v104 v109 v114 v119 v124 v129 v134 v139 v144 v149 : FVec F S128x128 .bf16) (v219 : FVec F S256x128 .f32) (v220 : Vec F S256x128 .f32)
    (f0 : Buf (Elt F) (arg2.view.loc (c : Thread nD τ))) (f1 : Buf (Elt F) (arg3.view.loc (c : Thread nD τ))) (f2 : Buf (Elt F) (arg4.view.loc (c : Thread nD τ))) (f3 : Buf (Elt F) (arg5.view.loc (c : Thread nD τ))) (f4 : Buf (Elt F) (arg6.view.loc (c : Thread nD τ))) (f5 : Buf (Elt F) (arg7.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 v2 v52 v74 v79 v84 v89 v94 v99 v104 v109 v114 v119 v124 v129 v134 v139 v144 v149 v219 v220 where
  inv _ _ := held c arg2 arg3 arg4 arg5 arg6 arg7 arg8 arg9 arg10 arg11 f0 f1 f2 f3 f4 f5
  step k acc := trip c i arg2 harg2 arg3 harg3 arg4 harg4 arg5 harg5 arg6 harg6 arg7 harg7 arg8 harg8 arg9 harg9 arg10 harg10 arg11 harg11 v2 v52 v74 v79 v84 v89 v94 v99 v104 v109 v114 v119 v124 v129 v134 v139 v144 v149 v219 v220 f0 f1 f2 f3 f4 f5 k acc

set_option maxHeartbeats 4000000 in
/-- The body at one grid point. -/
theorem sound_kernel (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S256x128 .f32) (harg9 : arg9.IsWhole) (arg10 : Memref sig .tc .vmem S2x512x256 .f32) (harg10 : arg10.IsWhole) (arg11 : Memref sig .tc .smem S8 .i32) (harg11 : arg11.IsWhole)
    (f0 : Buf (Elt F) (arg2.view.loc (c : Thread nD τ))) (f1 : Buf (Elt F) (arg3.view.loc (c : Thread nD τ))) (f2 : Buf (Elt F) (arg4.view.loc (c : Thread nD τ))) (f3 : Buf (Elt F) (arg5.view.loc (c : Thread nD τ))) (f4 : Buf (Elt F) (arg6.view.loc (c : Thread nD τ))) (f5 : Buf (Elt F) (arg7.view.loc (c : Thread nD τ))) (K : PUnit → sProp 𝕄) :
    iprop(held c arg2 arg3 arg4 arg5 arg6 arg7 arg8 arg9 arg10 arg11 f0 f1 f2 f3 f4 f5 ∗ (held c arg2 arg3 arg4 arg5 arg6 arg7 arg8 arg9 arg10 arg11 f0 f1 f2 f3 f4 f5 -∗ K ⟨⟩))
      ⊢ wp frame (wpE (defs₀ (F := F)) Variants.none (c : Thread nD τ) none) Set.univ (cc0_gla (F := F) i arg2 harg2 arg3 harg3 arg4 harg4 arg5 harg5 arg6 harg6 arg7 harg7 arg8 harg8 arg9 harg9 arg10 harg10 arg11 harg11) K := by
  simp only [cc0_gla_eq_skeleton]; unfold cc0_gla_skel
  unfold held
  iintro ⟨⟨H0, H1, H2, H3, H4, H5, ⟨%f6, H6⟩, ⟨%f7, H7⟩, ⟨%f8, H8⟩, ⟨%f9, H9⟩⟩, Hk⟩
  sl_exec
  by_cases h : sound_kernel.sl.v226 c arg6 f4 = 1#1
  · sl_exec
    sl_step
    iapply Hk
    sl_close
  · sl_exec
    sl_step
    iapply Hk
    sl_close

end Cert.GlaIdeal.Body

end
-- ==== Proof.Gla.Run.lean ====
module

public import proofs.«01_k».proof.Proof.Gla.Body

@[expose] public section

/-
  The whole run of the gated linear attention, for any values: every operand's staging buffer holds its block at every
  grid point, the result's buffer anything, and so every run from a launch ends with the argument arrays as launched.
-/

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Some contents of the result's buffer, which nothing is said of. -/
def blank : (cfg0.win 6).block.Idx → Elt F (cfg0.win 6).elt := fun _ => Classical.choice inferInstance

/-- Each array as the run finds it; each input's buffer left at its block; the body's own buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blank
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body's obligation -/

/-- What the body is run with at point `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [after0, after1, after2, after3, after4, after5]
  rw [show (dats m 0 c).Φ t.castSucc = Pipeline.ΦA spec0 c from rfl, show (dats m 0 c).Φ t.succ = Pipeline.ΦA spec0 c from rfl]
  unfold Pipeline.ΦA; rw [scopedRest0_eq]
  unfold owns
  iintro ⟨⟨⟨⟨%s0, HS0⟩, ⟨%s1, HS1⟩, ⟨%s2, HS2⟩⟩, HP⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%X, %f6, -, H6⟩⟩
  iapply (sound_kernel c (grid0.coords t) _ _ _ _ _ _ _ _ _ _ _ _ _ _ _ _ _ _ _ _ f0 f1 f2 f3 f4 f5 _)
  unfold held
  simp only [Memref.view_whole, View.set_whole]
  isplitl [H0 H1 H2 H3 H4 H5 H6 HS0 HS1 HS2]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexists f6; iexact H6
    isplitl [HS0]
    · iexists s0; iexact HS0
    isplitl [HS1]
    · iexists s1; iexact HS1
    iexists s2; iexact HS2
  iintro ⟨H0, H1, H2, H3, H4, H5, ⟨%g6, H6⟩, ⟨%g7, HS0⟩, ⟨%g8, HS1⟩, ⟨%g9, HS2⟩⟩
  isplitl [HS0 HS1 HS2 HP]
  · isplitr [HP]
    · isplitl [HS0]
      · iexists g7; iexact HS0
      isplitl [HS1]
      · iexists g8; iexact HS1
      iexists g9; iexact HS2
    iexact HP
  isplitl [Ho]
  · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists (st0_6 t).view.read (Elt F) g6, g6
  isplitr; · ipureintro; rfl
  iexact H6

theorem defs₀_row (t : Fin cfg0.N) :
    defs₀ (F := F) .tc cfg0.body (cfg0.bodyArgs t (cfg0.slots t)) = bodyAt0 t := by
  unfold defs₀; rw [Defs.onTc_tc]

/-- The window whose contents are not followed: the result's. -/
def fgt : Fin cfg0.W → Bool := fun w => w.val == 6

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run from a launch ends, with every input array and every other buffer as the operations before the kernel
    leave it, and every counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := body_obligation m) (hq := fun _ _ _ => rfl) (howed := fun _ _ => rfl) (V := V m)
    (hmain := hmain m Variants.none) (hA := A_eq m) (hΦ := fun _ _ => rfl)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1.arr_in c 1 rfl).trans ((A_eq m c 1).trans (V_main_arg0 m c)),
      (h.1.arr_in c 2 rfl).trans ((A_eq m c 2).trans (V_main_arg1 m c)),
      (h.1.arr_in c 3 rfl).trans ((A_eq m c 3).trans (V_main_arg2 m c)),
      (h.1.arr_in c 4 rfl).trans ((A_eq m c 4).trans (V_main_arg3 m c)),
      ((h.1 c).2 main_arg4 (Pipeline.mem_restRefs_of main_arg4 (by decide) (by decide))).trans (V_main_arg4 m c)⟩, h.2⟩) (run_main m ρ)

end Cert.GlaIdeal.Body
-- ==== Proof.Gla.Same.lean ====
module

public import proofs.«01_k».proof.Defs
public import proofs.«01_k».proof.Proof.Gen.Gla.Frame
public import proofs.«01_k».proof.Proof.Gla.Run

@[expose] public section

/-
  The gated linear attention's program and the one read on the extended reals have the same text, so the run proved for
  any values gives the first one's frame.
-/

set_option maxRecDepth 20000

noncomputable section

namespace Cert.Gla.Claims

open Idealize.ShloMosaic Idealize.ShloMosaic.TcCoe Idealize.SL.Sem
open Cert.Gla.Gen Cert.GlaIdeal.Gen

set_option maxHeartbeats 1000000 in
/-- The two programs' bodies are one. -/
theorem defs₀_same : Cert.Gla.defs₀ (F := Bits) = Cert.GlaIdeal.defs₀ (F := Bits) := by
  unfold Cert.Gla.defs₀ Cert.GlaIdeal.defs₀
  refine congrArg Defs.onTc (funext fun l => funext fun a => ?_)
  match l, a with
  | ⟨0, _⟩, (t, s) => exact rfl
  | ⟨n + 1, h⟩, _ => exact absurd h (Nat.not_lt.2 (Nat.le_add_left _ _))

theorem defs_same : Cert.Gla.defs (F := Bits) = Cert.GlaIdeal.defs (F := Bits) :=
  congrArg (Pipeline.defs Cert.GlaIdeal.pcfgs) defs₀_same

set_option maxHeartbeats 1000000 in
theorem frame : quiescent_Gla (hGla := Cert.Gla.Gen.facts) := by
  intro m ρ _
  rw [defs_same]
  exact Cert.GlaIdeal.Body.frame (F := Bits) m ρ

end Cert.Gla.Claims
-- ==== Proof.Gla.Claims.lean ====
module
public import proofs.«01_k».proof.Defs
public import proofs.«01_k».proof.Proof.Gla.Same
public import Idealize.ShloMosaic.Lib.Claim
@[expose] public section

/-
  The claims about the gated linear attention: it runs, and leaves its arguments as they were.
-/

noncomputable section

namespace Cert.Gla.Claims

theorem frameIdeal : quiescent_GlaIdeal (hGlaIdeal := Cert.GlaIdeal.Gen.facts) := fun m ρ _ => Cert.GlaIdeal.Body.frame m ρ

theorem preserves : preserves_Gla_GlaIdeal := trivial

end Cert.Gla.Claims
-- ==== Proof.lean ====
/- The certificate's claims, each proved in its own module. -/
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Merge.Claims
public import proofs.«01_k».proof.Proof.Proj.Claims
public import proofs.«01_k».proof.Proof.Gla.Claims
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts,
  Cert.Proj.Gen.facts, Cert.ProjIdeal.Gen.facts, Cert.ProjRefIdeal.Gen.facts,
  Cert.Gla.Gen.facts, Cert.GlaIdeal.Gen.facts,
  Cert.Merge.Claims.frame, Cert.Merge.Claims.frameIdeal, Cert.Merge.Claims.frameRef,
  Cert.Proj.Claims.frame, Cert.Proj.Claims.frameIdeal, Cert.Proj.Claims.frameRef,
  Cert.Gla.Claims.frame, Cert.Gla.Claims.frameIdeal,
  Cert.Merge.Claims.preserves, Cert.Merge.Claims.algebraic,
  Cert.Proj.Claims.preserves, Cert.Proj.Claims.algebraic, Cert.Gla.Claims.preserves⟩

end Cert.Proof

end
